-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mla [hPre_finite_mla : Cert.Pre_finite_mla.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mla.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mla [hPre_finite_mla : Cert.Pre_finite_mla.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mla.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_mla [hKernel3Ideal : Cert.Kernel3Ideal.Facts] [hPre_finite_mla : Cert.Pre_finite_mla.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mla m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_mla [hReference3Ideal : Cert.Reference3Ideal.Facts] [hPre_finite_mla : Cert.Pre_finite_mla.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mla m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "scale" .f32 0x3E16C740#32 (((3424635 / 33554432) * (Real.log 2)⁻¹ : ℝ) : EReal)
  ∧ IdealRules.named_const.Statement Cert.Kernel3Ideal.κ "mask" .f32 0xF149F2CA#32 ⊥

def algebraic_Kernel3Ideal_Reference3Ideal_pre_finite_mla [hKernel3Ideal : Cert.Kernel3Ideal.Facts] [hReference3Ideal : Cert.Reference3Ideal.Facts] [hPre_finite_mla : Cert.Pre_finite_mla.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mla m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)) (v4 : (c : Dev Cert.Kernel3Ideal.nD) → Buf (Elt Ideal) ((c.tc : Thread Cert.Kernel3Ideal.nD Cert.Kernel3Ideal.τ).loc Cert.Kernel3Ideal.main_v9_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_v9_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v32) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_finite_qk : Cert.Pre_finite_qk.Facts) (hPre_finite_mla : Cert.Pre_finite_mla.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_mla (hKernel3Ideal := hKernel3Ideal) (hPre_finite_mla := hPre_finite_mla)
    ∧ quiescent_Reference3Ideal (hReference3Ideal := hReference3Ideal)
    ∧ quiescent_Reference3Ideal_pre_finite_mla (hReference3Ideal := hReference3Ideal) (hPre_finite_mla := hPre_finite_mla)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_mla (hKernel3Ideal := hKernel3Ideal) (hReference3Ideal := hReference3Ideal) (hPre_finite_mla := hPre_finite_mla)
-- ==== Pre_finite_mla.lean ====
abbrev S16x2048x8x96 : Shape := ⟨4, ![16, 2048, 8, 96]⟩
abbrev S16x2048x8x64 : Shape := ⟨4, ![16, 2048, 8, 64]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S16x2048x8x96 : S_.BroadcastsInDim S16x2048x8x96 (![] : Fin 0 → Fin S16x2048x8x96.rank)
  reducesTo_S16x2048x8x96_S_d0_1_2_3 : S16x2048x8x96.ReducesTo [0, 1, 2, 3] S_
  h_S_ : 0 < S_.numel

variable [Facts]

def fn {F : FTy → Type} [FloatOps F] (main_arg0 : FVec F S16x2048x8x96 .f32) (main_arg1 : FVec F S16x2048x8x96 .f32) (main_arg2 : FVec F S16x2048x8x64 .f32) (main_arg3 : FVec F S1024x1024 .f32) (main_arg4 : FVec F S1024x2816 .f32) (main_arg5 : FVec F S1024x2816 .f32) (main_arg6 : FVec F S2816x1024 .f32) : IVec S_ 1 :=
  let main_v0 : FVec F S16x2048x8x96 .f32 := Host.absf main_arg0
  let main_cst : FVec F S_ .f32 := constant S_ .f32 0x7F800000#32
  let main_v1 : FVec F S16x2048x8x96 .f32 := broadcastInDim S16x2048x8x96 ![] bcast_S_S16x2048x8x96 main_cst
  let main_v2 : IVec S16x2048x8x96 1 := cmpf .olt main_v0 main_v1
  let main_c : IVec S_ 1 := constantI S_ 1 1#1
  let main_v3 : IVec S_ 1 := (fun x v => Host.reduce IntOp.andi x v reducesTo_S16x2048x8x96_S_d0_1_2_3 h_S_) main_v2 main_c
  let main_v4 : FVec F S16x2048x8x96 .f32 := Host.absf main_arg1
  let main_cst_0 : FVec F S_ .f32 := constant S_ .f32 0x7F800000#32
  let main_v5 : FVec F S16x2048x8x96 .f32 := broadcastInDim S16x2048x8x96 ![] bcast_S_S16x2048x8x96 main_cst_0
  let main_v6 : IVec S16x2048x8x96 1 := cmpf .olt main_v4 main_v5
  let main_c_1 : IVec S_ 1 := constantI S_ 1 1#1
  let main_v7 : IVec S_ 1 := (fun x v => Host.reduce IntOp.andi x v reducesTo_S16x2048x8x96_S_d0_1_2_3 h_S_) main_v6 main_c_1
  let main_v8 : IVec S_ 1 := andi main_v3 main_v7
  main_v8
-- ==== Pre_finite_qk.lean ====
abbrev S16x2048x8x64 : Shape := ⟨4, ![16, 2048, 8, 64]⟩
abbrev S_ : Shape := ⟨0, ![]⟩

class Facts : Prop where
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  h_S_ : 0 < S_.numel

variable [Facts]

def fn {F : FTy → Type} [FloatOps F] (main_arg0 : FVec F S16x2048x8x64 .f32) (main_arg1 : FVec F S16x2048x8x64 .f32) (main_arg2 : FVec F S16x2048x8x64 .f32) : IVec S_ 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_c : IVec S_ 1 := constantI S_ 1 1#1
  let main_v3 : IVec S_ 1 := (fun x v => Host.reduce IntOp.andi x v reducesTo_S16x2048x8x64_S_d0_1_2_3 h_S_) main_v2 main_c
  let main_v4 : FVec F S16x2048x8x64 .f32 := Host.absf main_arg1
  let main_cst_0 : FVec F S_ .f32 := constant S_ .f32 0x7F800000#32
  let main_v5 : FVec F S16x2048x8x64 .f32 := broadcastInDim S16x2048x8x64 ![] bcast_S_S16x2048x8x64 main_cst_0
  let main_v6 : IVec S16x2048x8x64 1 := cmpf .olt main_v4 main_v5
  let main_c_1 : IVec S_ 1 := constantI S_ 1 1#1
  let main_v7 : IVec S_ 1 := (fun x v => Host.reduce IntOp.andi x v reducesTo_S16x2048x8x64_S_d0_1_2_3 h_S_) main_v6 main_c_1
  let main_v8 : IVec S_ 1 := andi main_v3 main_v7
  main_v8
-- ==== Kernel.lean ====
abbrev S16x2048x8x64 : Shape := ⟨4, ![16, 2048, 8, 64]⟩
abbrev S32768x512 : Shape := ⟨2, ![32768, 512]⟩
abbrev S512x32768 : Shape := ⟨2, ![512, 32768]⟩
abbrev S128x2048 : Shape := ⟨2, ![128, 2048]⟩
abbrev S2048x128 : Shape := ⟨2, ![2048, 128]⟩
abbrev S2048x256 : Shape := ⟨2, ![2048, 256]⟩
abbrev S16x2048 : Shape := ⟨2, ![16, 2048]⟩
abbrev S16x128 : Shape := ⟨2, ![16, 128]⟩
abbrev S8x128 : Shape := ⟨2, ![8, 128]⟩
abbrev S32x128 : Shape := ⟨2, ![32, 128]⟩
abbrev S8x2048 : Shape := ⟨2, ![8, 2048]⟩
abbrev S64x2048 : Shape := ⟨2, ![64, 2048]⟩
abbrev S120x2048 : Shape := ⟨2, ![120, 2048]⟩
abbrev S80x2048 : Shape := ⟨2, ![80, 2048]⟩
abbrev S32x2048 : Shape := ⟨2, ![32, 2048]⟩
abbrev S1x2048 : Shape := ⟨2, ![1, 2048]⟩
abbrev S256x2048 : Shape := ⟨2, ![256, 2048]⟩
abbrev S256x256 : Shape := ⟨2, ![256, 256]⟩
abbrev S80x256 : Shape := ⟨2, ![80, 256]⟩
abbrev S64x256 : Shape := ⟨2, ![64, 256]⟩
abbrev S1x256 : Shape := ⟨2, ![1, 256]⟩

abbrev nBuf : Space → Nat
  | .hbm => 11
  | .vmem => 9
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S32768x512, .f32⟩
  | .hbm, ⟨4, _⟩ => ⟨S512x32768, .f32⟩
  | .hbm, ⟨5, _⟩ => ⟨S32768x512, .f32⟩
  | .hbm, ⟨6, _⟩ => ⟨S32768x512, .bf16⟩
  | .hbm, ⟨7, _⟩ => ⟨S32768x512, .f32⟩
  | .hbm, ⟨8, _⟩ => ⟨S512x32768, .f32⟩
  | .hbm, ⟨9, _⟩ => ⟨S512x32768, .bf16⟩
  | .hbm, ⟨10, _⟩ => ⟨S512x32768, .bf16⟩
  | .local _ .vmem, ⟨0, _⟩ => ⟨S128x2048, .f32⟩
  | .local _ .vmem, ⟨1, _⟩ => ⟨S128x2048, .f32⟩
  | .local _ .vmem, ⟨2, _⟩ => ⟨S2048x128, .bf16⟩
  | .local _ .vmem, ⟨3, _⟩ => ⟨S2048x128, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S2048x256, .bf16⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "scale" => some (((8 * (Real.log 2))⁻¹ : ℝ) : EReal)
  | _ => none
-- ==== ReferenceIdeal.lean ====
abbrev S16x2048x8x64 : Shape := ⟨4, ![16, 2048, 8, 64]⟩
abbrev S16x8x2048x64 : Shape := ⟨4, ![16, 8, 2048, 64]⟩
abbrev S2048 : Shape := ⟨1, ![2048]⟩
abbrev S_ : Shape := ⟨0, ![]⟩
abbrev S16x8x8x256x64 : Shape := ⟨5, ![16, 8, 8, 256, 64]⟩
abbrev S16x8x8x256x256 : Shape := ⟨5, ![16, 8, 8, 256, 256]⟩
abbrev S256x256 : Shape := ⟨2, ![256, 256]⟩
abbrev S16x8x8x256 : Shape := ⟨4, ![16, 8, 8, 256]⟩
abbrev S16x8x8x256x1 : Shape := ⟨5, ![16, 8, 8, 256, 1]⟩
abbrev S16x8x2048 : Shape := ⟨3, ![16, 8, 2048]⟩
abbrev S16x8x8x64 : Shape := ⟨4, ![16, 8, 8, 64]⟩
abbrev S16x8x2048x8 : Shape := ⟨4, ![16, 8, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S16x8x2048x3 : Shape := ⟨4, ![16, 8, 2048, 3]⟩
abbrev S3 : Shape := ⟨1, ![3]⟩
abbrev S1x3 : Shape := ⟨2, ![1, 3]⟩
abbrev S2048x3 : Shape := ⟨2, ![2048, 3]⟩
abbrev S16 : Shape := ⟨1, ![16]⟩
abbrev S16x1x1x1 : Shape := ⟨4, ![16, 1, 1, 1]⟩
abbrev S1x8x1x1 : Shape := ⟨4, ![1, 8, 1, 1]⟩
abbrev S16x8x2048x3x1 : Shape := ⟨5, ![16, 8, 2048, 3, 1]⟩
abbrev S16x8x2048x3x3 : Shape := ⟨5, ![16, 8, 2048, 3, 3]⟩
abbrev S16x8x2048x3x256x64 : Shape := ⟨6, ![16, 8, 2048, 3, 256, 64]⟩
abbrev S16x8x2048x3x256 : Shape := ⟨5, ![16, 8, 2048, 3, 256]⟩
abbrev S1x1x2048x3x1 : Shape := ⟨5, ![1, 1, 2048, 3, 1]⟩
abbrev S16x8x2048x1x1 : Shape := ⟨5, ![16, 8, 2048, 1, 1]⟩
abbrev S16x8x2048x1 : Shape := ⟨4, ![16, 8, 2048, 1]⟩
abbrev S8x64x16x2048 : Shape := ⟨4, ![8, 64, 16, 2048]⟩
abbrev S512x32768 : Shape := ⟨2, ![512, 32768]⟩

abbrev nBuf : Space → Nat
  | .hbm => 209
  | .vmem => 0
  | .smem => 0
  | _ => 0

abbrev hbmTy0_0 (i : Nat) : BufTy := match i % 128 with
  | 0 => ⟨S16x2048x8x64, .f32⟩
  | 1 => ⟨S16x2048x8x64, .f32⟩
  | 2 => ⟨S16x2048x8x64, .f32⟩
  | 3 => ⟨S16x8x2048x64, .f32⟩
  | 4 => ⟨S16x8x2048x64, .f32⟩
  | 5 => ⟨S16x8x2048x64, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S16x8x8x256x64, .f32⟩
  | 26 => ⟨S16x8x8x256x64, .f32⟩
  | 27 => ⟨S16x8x8x256x64, .f32⟩
  | 28 => ⟨S16x8x8x256x256, .f32⟩
  | 29 => ⟨S_, .f32⟩
  | 30 => ⟨S16x8x8x256x256, .f32⟩
  | 31 => ⟨S16x8x8x256x256, .f32⟩
  | 32 => ⟨S_, .i1⟩
  | 33 => ⟨S256x256, .i1⟩
  | 34 => ⟨S256x256, .i32⟩
  | 35 => ⟨S_, .i32⟩
  | 36 => ⟨S256x256, .i32⟩
  | 37 => ⟨S256x256, .i32⟩
  | 38 => ⟨S256x256, .i32⟩
  | 39 => ⟨S256x256, .i1⟩
  | 40 => ⟨S_, .i1⟩
  | 41 => ⟨S256x256, .i1⟩
  | 42 => ⟨S256x256, .i1⟩
  | 43 => ⟨S_, .f32⟩
  | 44 => ⟨S_, .f32⟩
  | 45 => ⟨S16x8x8x256x256, .i1⟩
  | 46 => ⟨S16x8x8x256x256, .f32⟩
  | 47 => ⟨S16x8x8x256x256, .f32⟩
  | 48 => ⟨S_, .f32⟩
  | 49 => ⟨S16x8x8x256, .f32⟩
  | 50 => ⟨S16x8x8x256x1, .f32⟩
  | 51 => ⟨S16x8x8x256x256, .f32⟩
  | 52 => ⟨S16x8x8x256x256, .f32⟩
  | 53 => ⟨S16x8x8x256x256, .f32⟩
  | 54 => ⟨S_, .f32⟩
  | 55 => ⟨S16x8x8x256, .f32⟩
  | 56 => ⟨S16x8x8x256x1, .f32⟩
  | 57 => ⟨S16x8x8x256x64, .f32⟩
  | 58 => ⟨S16x8x8x256x64, .f32⟩
  | 59 => ⟨S16x8x8x256x64, .f32⟩
  | 60 => ⟨S16x8x8x256x1, .f32⟩
  | 61 => ⟨S16x8x8x256x1, .f32⟩
  | 62 => ⟨S16x8x8x256, .f32⟩
  | 63 => ⟨S16x8x2048, .f32⟩
  | 64 => ⟨S16x8x2048x64, .f32⟩
  | 65 => ⟨S_, .f32⟩
  | 66 => ⟨S16x8x8x64, .f32⟩
  | 67 => ⟨S_, .f32⟩
  | 68 => ⟨S16x8x8x64, .f32⟩
  | 69 => ⟨S16x8x8x64, .f32⟩
  | 70 => ⟨S16x8x2048x8, .f32⟩
  | 71 => ⟨S8, .i32⟩
  | 72 => ⟨S1x8, .i32⟩
  | 73 => ⟨S2048x1, .i32⟩
  | 74 => ⟨S2048x8, .i32⟩
  | 75 => ⟨S2048x8, .i32⟩
  | 76 => ⟨S2048x8, .i1⟩
  | 77 => ⟨S_, .f32⟩
  | 78 => ⟨S_, .f32⟩
  | 79 => ⟨S16x8x2048x8, .i1⟩
  | 80 => ⟨S16x8x2048x8, .f32⟩
  | 81 => ⟨S16x8x2048x8, .f32⟩
  | 82 => ⟨S16x8x2048x3, .f32⟩
  | 83 => ⟨S16x8x2048x3, .i32⟩
  | 84 => ⟨S3, .i32⟩
  | 85 => ⟨S1x3, .i32⟩
  | 86 => ⟨S2048x1, .i32⟩
  | 87 => ⟨S2048x3, .i32⟩
  | 88 => ⟨S2048x3, .i32⟩
  | 89 => ⟨S2048x3, .i1⟩
  | 90 => ⟨S16, .i32⟩
  | 91 => ⟨S16x1x1x1, .i32⟩
  | 92 => ⟨S8, .i32⟩
  | 93 => ⟨S1x8x1x1, .i32⟩
  | 94 => ⟨S_, .i32⟩
  | 95 => ⟨S16x1x1x1, .i32⟩
  | 96 => ⟨S16x1x1x1, .i1⟩
  | 97 => ⟨S_, .i32⟩
  | 98 => ⟨S16x1x1x1, .i32⟩
  | 99 => ⟨S16x1x1x1, .i32⟩
  | 100 => ⟨S16x1x1x1, .i32⟩
  | 101 => ⟨S_, .i32⟩
  | 102 => ⟨S1x8x1x1, .i32⟩
  | 103 => ⟨S1x8x1x1, .i1⟩
  | 104 => ⟨S_, .i32⟩
  | 105 => ⟨S1x8x1x1, .i32⟩
  | 106 => ⟨S1x8x1x1, .i32⟩
  | 107 => ⟨S1x8x1x1, .i32⟩
  | 108 => ⟨S_, .i32⟩
  | 109 => ⟨S16x8x2048x3, .i32⟩
  | 110 => ⟨S16x8x2048x3, .i1⟩
  | 111 => ⟨S_, .i32⟩
  | 112 => ⟨S16x8x2048x3, .i32⟩
  | 113 => ⟨S16x8x2048x3, .i32⟩
  | 114 => ⟨S16x8x2048x3, .i32⟩
  | 115 => ⟨S16x8x2048x3, .i32⟩
  | 116 => ⟨S16x8x2048x3, .i32⟩
  | 117 => ⟨S16x8x2048x3x1, .i32⟩
  | 118 => ⟨S16x8x2048x3x1, .i32⟩
  | 119 => ⟨S16x8x2048x3x1, .i32⟩
  | 120 => ⟨S16x8x2048x3x3, .i32⟩
  | 121 => ⟨S16x8x2048x3x256x64, .f32⟩
  | 122 => ⟨S_, .i32⟩
  | 123 => ⟨S16x1x1x1, .i32⟩
  | 124 => ⟨S16x1x1x1, .i1⟩
  | 125 => ⟨S_, .i32⟩
  | 126 => ⟨S16x1x1x1, .i32⟩
  | 127 => ⟨S16x1x1x1, .i32⟩
  | _ => ⟨S16x2048x8x64, .f32⟩

abbrev hbmTy0_1 (i : Nat) : BufTy := match i % 128 with
  | 0 => ⟨S16x1x1x1, .i32⟩
  | 1 => ⟨S_, .i32⟩
  | 2 => ⟨S1x8x1x1, .i32⟩
  | 3 => ⟨S1x8x1x1, .i1⟩
  | 4 => ⟨S_, .i32⟩
  | 5 => ⟨S1x8x1x1, .i32⟩
  | 6 => ⟨S1x8x1x1, .i32⟩
  | 7 => ⟨S1x8x1x1, .i32⟩
  | 8 => ⟨S_, .i32⟩
  | 9 => ⟨S16x8x2048x3, .i32⟩
  | 10 => ⟨S16x8x2048x3, .i1⟩
  | 11 => ⟨S_, .i32⟩
  | 12 => ⟨S16x8x2048x3, .i32⟩
  | 13 => ⟨S16x8x2048x3, .i32⟩
  | 14 => ⟨S16x8x2048x3, .i32⟩
  | 15 => ⟨S16x8x2048x3, .i32⟩
  | 16 => ⟨S16x8x2048x3, .i32⟩
  | 17 => ⟨S16x8x2048x3x1, .i32⟩
  | 18 => ⟨S16x8x2048x3x1, .i32⟩
  | 19 => ⟨S16x8x2048x3x1, .i32⟩
  | 20 => ⟨S16x8x2048x3x3, .i32⟩
  | 21 => ⟨S16x8x2048x3x256x64, .f32⟩
  | 22 => ⟨S16x8x2048x3x256, .f32⟩
  | 23 => ⟨S_, .f32⟩
  | 24 => ⟨S16x8x2048x3x256, .f32⟩
  | 25 => ⟨S16x8x2048x3x256, .f32⟩
  | 26 => ⟨S1x1x2048x3x1, .i1⟩
  | 27 => ⟨S_, .f32⟩
  | 28 => ⟨S_, .f32⟩
  | 29 => ⟨S16x8x2048x3x256, .i1⟩
  | 30 => ⟨S16x8x2048x3x256, .f32⟩
  | 31 => ⟨S16x8x2048x3x256, .f32⟩
  | 32 => ⟨S_, .f32⟩
  | 33 => ⟨S16x8x2048, .f32⟩
  | 34 => ⟨S16x8x2048x1x1, .f32⟩
  | 35 => ⟨S16x8x2048x1x1, .f32⟩
  | 36 => ⟨S_, .f32⟩
  | 37 => ⟨S16x8x2048x1x1, .f32⟩
  | 38 => ⟨S16x8x2048x1x1, .i1⟩
  | 39 => ⟨S_, .f32⟩
  | 40 => ⟨S_, .f32⟩
  | 41 => ⟨S16x8x2048x1x1, .f32⟩
  | 42 => ⟨S16x8x2048x1x1, .f32⟩
  | 43 => ⟨S16x8x2048x3x256, .f32⟩
  | 44 => ⟨S16x8x2048x3x256, .f32⟩
  | 45 => ⟨S16x8x2048x3x256, .f32⟩
  | 46 => ⟨S_, .f32⟩
  | 47 => ⟨S16x8x2048, .f32⟩
  | 48 => ⟨S16x8x2048x64, .f32⟩
  | 49 => ⟨S_, .f32⟩
  | 50 => ⟨S16x8x2048, .f32⟩
  | 51 => ⟨S16x8x2048, .i1⟩
  | 52 => ⟨S_, .f32⟩
  | 53 => ⟨S_, .f32⟩
  | 54 => ⟨S16x8x2048, .f32⟩
  | 55 => ⟨S16x8x2048, .f32⟩
  | 56 => ⟨S16x8x2048x1, .f32⟩
  | 57 => ⟨S16x8x2048x64, .f32⟩
  | 58 => ⟨S16x8x2048x64, .f32⟩
  | 59 => ⟨S16x8x2048, .f32⟩
  | 60 => ⟨S16x8x2048, .f32⟩
  | 61 => ⟨S16x8x2048, .f32⟩
  | 62 => ⟨S16x8x2048, .f32⟩
  | 63 => ⟨S16x8x2048, .f32⟩
  | 64 => ⟨S16x8x2048, .f32⟩
  | 65 => ⟨S16x8x2048, .f32⟩
  | 66 => ⟨S16x8x2048, .f32⟩
  | 67 => ⟨S16x8x2048x1, .f32⟩
  | 68 => ⟨S16x8x2048x64, .f32⟩
  | 69 => ⟨S16x8x2048x64, .f32⟩
  | 70 => ⟨S16x8x2048x1, .f32⟩
  | 71 => ⟨S16x8x2048x64, .f32⟩
  | 72 => ⟨S16x8x2048x64, .f32⟩
  | 73 => ⟨S16x8x2048x64, .f32⟩
  | 74 => ⟨S16x8x2048, .f32⟩
  | 75 => ⟨S16x8x2048x1, .f32⟩
  | 76 => ⟨S16x8x2048x64, .f32⟩
  | 77 => ⟨S16x8x2048x64, .f32⟩
  | 78 => ⟨S8x64x16x2048, .f32⟩
  | 79 => ⟨S512x32768, .f32⟩
  | 80 => ⟨S512x32768, .bf16⟩
  | _ => ⟨S16x2048x8x64, .f32⟩

abbrev hbmTy (i : Nat) : BufTy := match i / 128 with
  | 0 => hbmTy0_0 i
  | 1 => hbmTy0_1 i
  | _ => ⟨S16x2048x8x64, .f32⟩

abbrev bufTy : (tb : Table) → Fin (tcTables nBuf tb) → BufTy
  | .hbm, ⟨i, _⟩ => hbmTy i
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_0 : Ref sig .tc := ⟨.hbm, 40, rfl⟩
abbrev main_call1_v5 : Ref sig .tc := ⟨.hbm, 41, rfl⟩
abbrev main_v12 : Ref sig .tc := ⟨.hbm, 42, rfl⟩
abbrev main_cst_1 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v13 : Ref sig .tc := ⟨.hbm, 47, rfl⟩
abbrev main_cst_2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_3 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_4 : Ref sig .tc := ⟨.hbm, 65, rfl⟩
abbrev main_v29 : Ref sig .tc := ⟨.hbm, 66, rfl⟩
abbrev main_cst_5 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_6 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v39 : Ref sig .tc := ⟨.hbm, 81, rfl⟩
abbrev main_values : Ref sig .tc := ⟨.hbm, 82, rfl⟩
abbrev main_indices : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_7 : Ref sig .tc := ⟨.hbm, 94, rfl⟩
abbrev main_v50 : Ref sig .tc := ⟨.hbm, 95, rfl⟩
abbrev main_v51 : Ref sig .tc := ⟨.hbm, 96, rfl⟩
abbrev main_c_8 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_9 : Ref sig .tc := ⟨.hbm, 101, rfl⟩
abbrev main_v55 : Ref sig .tc := ⟨.hbm, 102, rfl⟩
abbrev main_v56 : Ref sig .tc := ⟨.hbm, 103, rfl⟩
abbrev main_c_10 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_c_11 : Ref sig .tc := ⟨.hbm, 108, rfl⟩
abbrev main_v60 : Ref sig .tc := ⟨.hbm, 109, rfl⟩
abbrev main_v61 : Ref sig .tc := ⟨.hbm, 110, rfl⟩
abbrev main_c_12 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_13 : Ref sig .tc := ⟨.hbm, 122, rfl⟩
abbrev main_v72 : Ref sig .tc := ⟨.hbm, 123, rfl⟩
abbrev main_v73 : Ref sig .tc := ⟨.hbm, 124, rfl⟩
abbrev main_c_14 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_15 : Ref sig .tc := ⟨.hbm, 129, rfl⟩
abbrev main_v77 : Ref sig .tc := ⟨.hbm, 130, rfl⟩
abbrev main_v78 : Ref sig .tc := ⟨.hbm, 131, rfl⟩
abbrev main_c_16 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_17 : Ref sig .tc := ⟨.hbm, 136, rfl⟩
abbrev main_v82 : Ref sig .tc := ⟨.hbm, 137, rfl⟩
abbrev main_v83 : Ref sig .tc := ⟨.hbm, 138, rfl⟩
abbrev main_c_18 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_19 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_20 : Ref sig .tc := ⟨.hbm, 155, rfl⟩
abbrev main_call4_v0 : Ref sig .tc := ⟨.hbm, 156, rfl⟩
abbrev main_call4_v1 : Ref sig .tc := ⟨.hbm, 157, rfl⟩
abbrev main_call4_v2 : Ref sig .tc := ⟨.hbm, 158, rfl⟩
abbrev main_v98 : Ref sig .tc := ⟨.hbm, 159, rfl⟩
abbrev main_cst_21 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_22 : Ref sig .tc := ⟨.hbm, 164, rfl⟩
abbrev main_v102 : Ref sig .tc := ⟨.hbm, 165, rfl⟩
abbrev main_v103 : Ref sig .tc := ⟨.hbm, 166, rfl⟩
abbrev main_cst_23 : Ref sig .tc := ⟨.hbm, 167, rfl⟩
abbrev main_call5_v0 : Ref sig .tc := ⟨.hbm, 168, rfl⟩
abbrev main_call5_v1 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_24 : Ref sig .tc := ⟨.hbm, 174, rfl⟩
abbrev main_v108 : Ref sig .tc := ⟨.hbm, 175, rfl⟩
abbrev main_v109 : Ref sig .tc := ⟨.hbm, 176, rfl⟩
abbrev main_cst_25 : Ref sig .tc := ⟨.hbm, 177, rfl⟩
abbrev main_v110 : Ref sig .tc := ⟨.hbm, 178, rfl⟩
abbrev main_v111 : Ref sig .tc := ⟨.hbm, 179, rfl⟩
abbrev main_cst_26 : Ref sig .tc := ⟨.hbm, 180, rfl⟩
abbrev main_call6_v0 : Ref sig .tc := ⟨.hbm, 181, rfl⟩
abbrev main_call6_v1 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x32768 : Shape := ⟨2, ![512, 32768]⟩
abbrev S1x1024 : Shape := ⟨2, ![1, 1024]⟩
abbrev S512x1024 : Shape := ⟨2, ![512, 1024]⟩
abbrev S1024x1 : Shape := ⟨2, ![1024, 1]⟩

abbrev nBuf : Space → Nat
  | .hbm => 18
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S512x32768, .f32⟩
  | .hbm, ⟨9, _⟩ => ⟨S512x32768, .bf16⟩
  | .hbm, ⟨10, _⟩ => ⟨S512x32768, .f32⟩
  | .hbm, ⟨11, _⟩ => ⟨S512x32768, .bf16⟩
  | .hbm, ⟨12, _⟩ => ⟨S1024x1024, .bf16⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1024x1024, .f32⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S16x2048x8x96 : Shape := ⟨4, ![16, 2048, 8, 96]⟩
abbrev S16x2048x8x64 : Shape := ⟨4, ![16, 2048, 8, 64]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S16x2048x8x128 : Shape := ⟨4, ![16, 2048, 8, 128]⟩
abbrev S32768x1024 : Shape := ⟨2, ![32768, 1024]⟩
abbrev S1024x32768 : Shape := ⟨2, ![1024, 32768]⟩
abbrev S32768x512 : Shape := ⟨2, ![32768, 512]⟩
abbrev S512x32768 : Shape := ⟨2, ![512, 32768]⟩
abbrev S256x2048 : Shape := ⟨2, ![256, 2048]⟩
abbrev S2048x256 : Shape := ⟨2, ![2048, 256]⟩
abbrev S128x2048 : Shape := ⟨2, ![128, 2048]⟩
abbrev S16x1024 : Shape := ⟨2, ![16, 1024]⟩
abbrev S16x2816 : Shape := ⟨2, ![16, 2816]⟩
abbrev S64x1024 : Shape := ⟨2, ![64, 1024]⟩
abbrev S16x2048 : Shape := ⟨2, ![16, 2048]⟩
abbrev S64x2048 : Shape := ⟨2, ![64, 2048]⟩
abbrev S80x2048 : Shape := ⟨2, ![80, 2048]⟩
abbrev S256x128 : Shape := ⟨2, ![256, 128]⟩
abbrev S128x256 : Shape := ⟨2, ![128, 256]⟩
abbrev S256x256 : Shape := ⟨2, ![256, 256]⟩
abbrev S80x256 : Shape := ⟨2, ![80, 256]⟩
abbrev S64x256 : Shape := ⟨2, ![64, 256]⟩
abbrev S1x256 : Shape := ⟨2, ![1, 256]⟩

abbrev nBuf : Space → Nat
  | .hbm => 25
  | .vmem => 24
  | .smem => 0
  | _ => 0

abbrev bufTy : (tb : Table) → Fin (tcTables nBuf tb) → BufTy
  | .hbm, ⟨0, _⟩ => ⟨S16x2048x8x96, .f32⟩
  | .hbm, ⟨1, _⟩ => ⟨S16x2048x8x96, .f32⟩
  | .hbm, ⟨2, _⟩ => ⟨S16x2048x8x64, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S_, .i32⟩
  | .hbm, ⟨8, _⟩ => ⟨S_, .f32⟩
  | .hbm, ⟨9, _⟩ => ⟨S16x2048x8x128, .f32⟩
  | .hbm, ⟨10, _⟩ => ⟨S32768x1024, .f32⟩
  | .hbm, ⟨11, _⟩ => ⟨S1024x32768, .f32⟩
  | .hbm, ⟨12, _⟩ => ⟨S_, .i32⟩
  | .hbm, ⟨13, _⟩ => ⟨S_, .f32⟩
  | .hbm, ⟨14, _⟩ => ⟨S16x2048x8x128, .f32⟩
  | .hbm, ⟨15, _⟩ => ⟨S32768x1024, .f32⟩
  | .hbm, ⟨16, _⟩ => ⟨S32768x1024, .bf16⟩
  | .hbm, ⟨17, _⟩ => ⟨S32768x512, .f32⟩
  | .hbm, ⟨18, _⟩ => ⟨S512x32768, .f32⟩
  | .hbm, ⟨19, _⟩ => ⟨S512x32768, .bf16⟩
  | .hbm, ⟨20, _⟩ => ⟨S512x32768, .bf16⟩
  | .hbm, ⟨21, _⟩ => ⟨S1024x1024, .bf16⟩
  | .hbm, ⟨22, _⟩ => ⟨S1024x2816, .bf16⟩
  | .hbm, ⟨23, _⟩ => ⟨S1024x2816, .bf16⟩
  | .hbm, ⟨24, _⟩ => ⟨S2816x1024, .bf16⟩
  | .local _ .vmem, ⟨0, _⟩ => ⟨S256x2048, .f32⟩
  | .local _ .vmem, ⟨1, _⟩ => ⟨S256x2048, .f32⟩
  | .local _ .vmem, ⟨2, _⟩ => ⟨S2048x256, .bf16⟩
  | .local _ .vmem, ⟨3, _⟩ => ⟨S2048x256, .bf16⟩
  | .local _ .vmem, ⟨4, _⟩ => ⟨S128x2048, .bf16⟩
  | .local _ .vmem, ⟨5, _⟩ => ⟨S128x2048, .bf16⟩
  | .local _ .vmem, ⟨6, _⟩ => ⟨S16x1024, .f32⟩
  | .local _ .vmem, ⟨7, _⟩ => ⟨S16x1024, .f32⟩
  | .local _ .vmem, ⟨8, _⟩ => ⟨S16x2816, .f32⟩
  | .local _ .vmem, ⟨9, _⟩ => ⟨S16x2816, .f32⟩
  | .local _ .vmem, ⟨10, _⟩ => ⟨S16x2816, .f32⟩
  | .local _ .vmem, ⟨11, _⟩ => ⟨S16x2816, .f32⟩
  | .local _ .vmem, ⟨12, _⟩ => ⟨S64x1024, .f32⟩
  | .local _ .vmem, ⟨13, _⟩ => ⟨S64x1024, .f32⟩
  | .local _ .vmem, ⟨14, _⟩ => ⟨S128x2048, .bf16⟩
  | .local _ .vmem, ⟨15, _⟩ => ⟨S128x2048, .bf16⟩
  | .local _ .vmem, ⟨16, _⟩ => ⟨S16x1024, .bf16⟩
  | .local _ .vmem, ⟨17, _⟩ => ⟨S16x1024, .bf16⟩
  | .local _ .vmem, ⟨18, _⟩ => ⟨S16x2816, .bf16⟩
  | .local _ .vmem, ⟨19, _⟩ => ⟨S16x2816, .bf16⟩
  | .local _ .vmem, ⟨20, _⟩ => ⟨S16x2816, .bf16⟩
  | .local _ .vmem, ⟨21, _⟩ => ⟨S16x2816, .bf16⟩
  | .local _ .vmem, ⟨22, _⟩ => ⟨S64x1024, .bf16⟩
  | .local _ .vmem, ⟨23, _⟩ => ⟨S64x1024, .bf16⟩
  | _, _ => ⟨S16x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
variable {F : FTy → Type} [FloatOps F] [Named F]
def κ : String → Option EReal := fun
  | "mask" => some ⊥
  | "scale" => some (((3424635 / 33554432) * (Real.log 2)⁻¹ : ℝ) : EReal)
  | _ => none
-- ==== Reference3Ideal.lean ====
abbrev S16x2048x8x96 : Shape := ⟨4, ![16, 2048, 8, 96]⟩
abbrev S16x2048x8x64 : Shape := ⟨4, ![16, 2048, 8, 64]⟩
abbrev S1024x1024 : Shape := ⟨2, ![1024, 1024]⟩
abbrev S1024x2816 : Shape := ⟨2, ![1024, 2816]⟩
abbrev S2816x1024 : Shape := ⟨2, ![2816, 1024]⟩
abbrev S16x8x2048x96 : Shape := ⟨4, ![16, 8, 2048, 96]⟩
abbrev S16x8x2048x64 : Shape := ⟨4, ![16, 8, 2048, 64]⟩
abbrev S2048 : Shape := ⟨1, ![2048]⟩
abbrev S16x8x2048x2048 : Shape := ⟨4, ![16, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S8x64x16x2048 : Shape := ⟨4, ![8, 64, 16, 2048]⟩
abbrev S512x32768 : Shape := ⟨2, ![512, 32768]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x8x96, .f32⟩
  | .hbm, ⟨1, _⟩ => ⟨S16x2048x8x96, .f32⟩
  | .hbm, ⟨2, _⟩ => ⟨S16x2048x8x64, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x8x2048x96, .f32⟩
  | .hbm, ⟨8, _⟩ => ⟨S16x8x2048x96, .f32⟩
  | .hbm, ⟨9, _⟩ => ⟨S16x8x2048x64, .f32⟩
  | .hbm, ⟨10, _⟩ => ⟨S2048, .i32⟩
  | .hbm, ⟨11, _⟩ => ⟨S16x8x2048x2048, .f32⟩
  | .hbm, ⟨12, _⟩ => ⟨S_, .f32⟩
  | .hbm, ⟨13, _⟩ => ⟨S16x8x2048x2048, .f32⟩
  | .hbm, ⟨14, _⟩ => ⟨S16x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S16x8x2048x2048, .i1⟩
  | .hbm, ⟨24, _⟩ => ⟨S16x8x2048x2048, .f32⟩
  | .hbm, ⟨25, _⟩ => ⟨S16x8x2048x2048, .f32⟩
  | .hbm, ⟨26, _⟩ => ⟨S_, .f32⟩
  | .hbm, ⟨27, _⟩ => ⟨S16x8x2048, .f32⟩
  | .hbm, ⟨28, _⟩ => ⟨S_, .f32⟩
  | .hbm, ⟨29, _⟩ => ⟨S16x8x2048, .f32⟩
  | .hbm, ⟨30, _⟩ => ⟨S16x8x2048, .f32⟩
  | .hbm, ⟨31, _⟩ => ⟨S16x8x2048x1, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S_, .f32⟩
  | .hbm, ⟨36, _⟩ => ⟨S16x8x2048, .f32⟩
  | .hbm, ⟨37, _⟩ => ⟨S16x8x2048x1, .f32⟩
  | .hbm, ⟨38, _⟩ => ⟨S16x8x2048x2048, .f32⟩
  | .hbm, ⟨39, _⟩ => ⟨S16x8x2048x2048, .f32⟩
  | .hbm, ⟨40, _⟩ => ⟨S16x8x2048x64, .f32⟩
  | .hbm, ⟨41, _⟩ => ⟨S8x64x16x2048, .f32⟩
  | .hbm, ⟨42, _⟩ => ⟨S512x32768, .f32⟩
  | .hbm, ⟨43, _⟩ => ⟨S512x32768, .bf16⟩
  | .hbm, ⟨44, _⟩ => ⟨S1024x1024, .bf16⟩
  | .hbm, ⟨45, _⟩ => ⟨S1024x2816, .bf16⟩
  | .hbm, ⟨46, _⟩ => ⟨S1024x2816, .bf16⟩
  | .hbm, ⟨47, _⟩ => ⟨S2816x1024, .bf16⟩
  | _, _ => ⟨S16x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x1952 : Shape := ⟨2, ![1024, 1952]⟩
abbrev S64 : Shape := ⟨1, ![64]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S32x2048 : Shape := ⟨2, ![32, 2048]⟩
abbrev S16 : Shape := ⟨1, ![16]⟩
abbrev S1x16 : Shape := ⟨2, ![1, 16]⟩
abbrev S2048x16 : Shape := ⟨2, ![2048, 16]⟩
abbrev S16x2048 : Shape := ⟨2, ![16, 2048]⟩
abbrev S32768x1024 : Shape := ⟨2, ![32768, 1024]⟩
abbrev S576 : Shape := ⟨1, ![576]⟩
abbrev S576x1 : Shape := ⟨2, ![576, 1]⟩
abbrev S32x1 : Shape := ⟨2, ![32, 1]⟩
abbrev S128x2048 : Shape := ⟨2, ![128, 2048]⟩
abbrev S288x2048 : Shape := ⟨2, ![288, 2048]⟩
abbrev S1x1024 : Shape := ⟨2, ![1, 1024]⟩
abbrev S1952x1024 : Shape := ⟨2, ![1952, 1024]⟩
abbrev S768x256 : Shape := ⟨2, ![768, 256]⟩
abbrev S1024x128 : Shape := ⟨2, ![1024, 128]⟩
abbrev S512x32768 : Shape := ⟨2, ![512, 32768]⟩
abbrev S32768x512 : Shape := ⟨2, ![32768, 512]⟩
abbrev S1024x32768 : Shape := ⟨2, ![1024, 32768]⟩
abbrev S512x1024 : Shape := ⟨2, ![512, 1024]⟩
abbrev S288x512 : Shape := ⟨2, ![288, 512]⟩
abbrev S512x512 : Shape := ⟨2, ![512, 512]⟩
abbrev S1024x512 : Shape := ⟨2, ![1024, 512]⟩
abbrev S1952x512 : Shape := ⟨2, ![1952, 512]⟩
abbrev S256x1024 : Shape := ⟨2, ![256, 1024]⟩
abbrev S256x1 : Shape := ⟨2, ![256, 1]⟩
abbrev S256x256 : Shape := ⟨2, ![256, 256]⟩
abbrev S1x256 : Shape := ⟨2, ![1, 256]⟩
abbrev S128x256 : Shape := ⟨2, ![128, 256]⟩
abbrev S128x1 : Shape := ⟨2, ![128, 1]⟩
abbrev S1024x256 : Shape := ⟨2, ![1024, 256]⟩
abbrev S64x256 : Shape := ⟨2, ![64, 256]⟩
abbrev S32x256 : Shape := ⟨2, ![32, 256]⟩
abbrev S512x256 : Shape := ⟨2, ![512, 256]⟩
abbrev S256x512 : Shape := ⟨2, ![256, 512]⟩
abbrev S16x256 : Shape := ⟨2, ![16, 256]⟩
abbrev S96x1 : Shape := ⟨2, ![96, 1]⟩
abbrev S96x256 : Shape := ⟨2, ![96, 256]⟩
abbrev S64x1 : Shape := ⟨2, ![64, 1]⟩
abbrev S416x1024 : Shape := ⟨2, ![416, 1024]⟩
abbrev S416x512 : Shape := ⟨2, ![416, 512]⟩

abbrev nBuf : Space → Nat
  | .hbm => 101
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x1952, .f32⟩
  | .hbm, ⟨3, _⟩ => ⟨S64, .f32⟩
  | .hbm, ⟨4, _⟩ => ⟨S64, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x1024, .f32⟩
  | .hbm, ⟨9, _⟩ => ⟨S96, .f32⟩
  | .hbm, ⟨10, _⟩ => ⟨S96, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S32x2048, .f32⟩
  | .hbm, ⟨33, _⟩ => ⟨S2048x32, .f32⟩
  | .hbm, ⟨34, _⟩ => ⟨S32x2048, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S2048, .f32⟩
  | .hbm, ⟨50, _⟩ => ⟨S2048x1, .f32⟩
  | .hbm, ⟨51, _⟩ => ⟨S1x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S16x2048, .f32⟩
  | .hbm, ⟨57, _⟩ => ⟨S2048x16, .f32⟩
  | .hbm, ⟨58, _⟩ => ⟨S16x2048, .f32⟩
  | .hbm, ⟨59, _⟩ => ⟨S32768x1024, .f32⟩
  | .hbm, ⟨60, _⟩ => ⟨S576, .f32⟩
  | .hbm, ⟨61, _⟩ => ⟨S576x1, .f32⟩
  | .hbm, ⟨62, _⟩ => ⟨S32, .f32⟩
  | .hbm, ⟨63, _⟩ => ⟨S32x1, .f32⟩
  | .hbm, ⟨64, _⟩ => ⟨S32, .f32⟩
  | .hbm, ⟨65, _⟩ => ⟨S32x1, .f32⟩
  | .hbm, ⟨66, _⟩ => ⟨S32x2048, .f32⟩
  | .hbm, ⟨67, _⟩ => ⟨S32x2048, .f32⟩
  | .hbm, ⟨68, _⟩ => ⟨S32x2048, .f32⟩
  | .hbm, ⟨69, _⟩ => ⟨S32x2048, .f32⟩
  | .hbm, ⟨70, _⟩ => ⟨S32x2048, .f32⟩
  | .hbm, ⟨71, _⟩ => ⟨S32x2048, .f32⟩
  | .hbm, ⟨72, _⟩ => ⟨S32x2048, .f32⟩
  | .hbm, ⟨73, _⟩ => ⟨S32x2048, .f32⟩
  | .hbm, ⟨74, _⟩ => ⟨S128x2048, .f32⟩
  | .hbm, ⟨75, _⟩ => ⟨S32, .f32⟩
  | .hbm, ⟨76, _⟩ => ⟨S32x1, .f32⟩
  | .hbm, ⟨77, _⟩ => ⟨S32, .f32⟩
  | .hbm, ⟨78, _⟩ => ⟨S32x1, .f32⟩
  | .hbm, ⟨79, _⟩ => ⟨S32x2048, .f32⟩
  | .hbm, ⟨80, _⟩ => ⟨S32x2048, .f32⟩
  | .hbm, ⟨81, _⟩ => ⟨S32x2048, .f32⟩
  | .hbm, ⟨82, _⟩ => ⟨S32x2048, .f32⟩
  | .hbm, ⟨83, _⟩ => ⟨S32x2048, .f32⟩
  | .hbm, ⟨84, _⟩ => ⟨S32x2048, .f32⟩
  | .hbm, ⟨85, _⟩ => ⟨S32x2048, .f32⟩
  | .hbm, ⟨86, _⟩ => ⟨S32x2048, .f32⟩
  | .hbm, ⟨87, _⟩ => ⟨S128x2048, .f32⟩
  | .hbm, ⟨88, _⟩ => ⟨S288x2048, .f32⟩
  | .hbm, ⟨89, _⟩ => ⟨S1x1024, .f32⟩
  | .hbm, ⟨90, _⟩ => ⟨S1952x1024, .f32⟩
  | .hbm, ⟨91, _⟩ => ⟨S768x256, .f32⟩
  | .hbm, ⟨92, _⟩ => ⟨S768x256, .bf16⟩
  | .hbm, ⟨93, _⟩ => ⟨S1024x128, .f32⟩
  | .hbm, ⟨94, _⟩ => ⟨S1024x128, .bf16⟩
  | .hbm, ⟨95, _⟩ => ⟨S512x32768, .bf16⟩
  | .hbm, ⟨96, _⟩ => ⟨S32768x512, .bf16⟩
  | .hbm, ⟨97, _⟩ => ⟨S512x32768, .bf16⟩
  | .hbm, ⟨98, _⟩ => ⟨S1024x32768, .bf16⟩
  | .hbm, ⟨99, _⟩ => ⟨S32768x1024, .bf16⟩
  | .hbm, ⟨100, _⟩ => ⟨S512x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1952x1024, .f32⟩
  | .local _ .vmem, ⟨4, _⟩ => ⟨S768x256, .bf16⟩
  | .local _ .vmem, ⟨5, _⟩ => ⟨S1024x128, .bf16⟩
  | .local _ .vmem, ⟨6, _⟩ => ⟨S576x1, .f32⟩
  | .local _ .vmem, ⟨7, _⟩ => ⟨S288x512, .f32⟩
  | .local _ .vmem, ⟨8, _⟩ => ⟨S288x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1024x512, .bf16⟩
  | .local _ .vmem, ⟨16, _⟩ => ⟨S1024x512, .bf16⟩
  | .local _ .vmem, ⟨17, _⟩ => ⟨S512x1024, .bf16⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | .local _ .vmem, ⟨21, _⟩ => ⟨S1952x512, .f32⟩
  | .local _ .vmem, ⟨22, _⟩ => ⟨S1952x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76_0 : Ref sig .tc := ⟨.hbm, 95, rfl⟩
abbrev main_v76_1 : Ref sig .tc := ⟨.hbm, 96, rfl⟩
abbrev main_v76_2 : Ref sig .tc := ⟨.hbm, 97, rfl⟩
abbrev main_v76_3 : Ref sig .tc := ⟨.hbm, 98, rfl⟩
abbrev main_v76_4 : Ref sig .tc := ⟨.hbm, 99, rfl⟩
abbrev main_v76_5 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1952x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S288x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Proof.FfnMath.lean ====
/- The output projection, residual, RMS norm and SwiGLU feed-forward of one token, over the extended reals. -/
module

public import Idealize.ShloMosaic.PureOps.Ideal.Laws

@[expose] public section

noncomputable section

namespace Cert.Ffn

open Idealize.ShloMosaic

/-- The hidden row of one token: its residual `x` plus its attention row `o` times the output projection `w`. -/
def hid (x o : Fin 1024 → EReal) (w : Fin 1024 → Fin 1024 → EReal) (c : Fin 1024) : EReal :=
  x c + ∑ k, o k * w k c

/-- The RMS norm of a row `h` with gains `g`. -/
def nrm (h g : Fin 1024 → EReal) (c : Fin 1024) : EReal :=
  h c * Ideal.rsqrt (Ideal.div (∑ k, h k * h k) (Ideal.ofBits .f32 0x44800000#32) + Ideal.ofBits .f32 0x358637BD#32) * g c

/-- The SwiGLU activation of a normed row. -/
def act (n : Fin 1024 → EReal) (wg wu : Fin 1024 → Fin 2816 → EReal) (f : Fin 2816) : EReal :=
  (∑ k, n k * wg k f) * Ideal.logistic (∑ k, n k * wg k f) * ∑ k, n k * wu k f

/-- The layer's result for one token. -/
def layer (x o : Fin 1024 → EReal) (w : Fin 1024 → Fin 1024 → EReal) (g : Fin 1024 → EReal)
    (wg wu : Fin 1024 → Fin 2816 → EReal) (wd : Fin 2816 → Fin 1024 → EReal) (c : Fin 1024) : EReal :=
  hid x o w c + ∑ f, act (nrm (hid x o w) g) wg wu f * wd f c

/-- Two rows of 512 side by side. -/
def join (a b : Fin 512 → EReal) (k : Fin 1024) : EReal :=
  if h : k.val < 512 then a ⟨k.val, h⟩ else b ⟨k.val - 512, by omega⟩

end Cert.Ffn

end
-- ==== Proof.FfnPay.lean ====
/- What the feed-forward kernel's body computes, entry by entry. -/
module

public import proofs.«01_k».proof.Proof.FfnMath
public import proofs.«01_k».proof.Proof.Gen.Kernel2Ideal.Value
public import Idealize.ShloMosaic.Lib.Pointwise
public import Idealize.ShloMosaic.Lib.ValueIdx

@[expose] public section

set_option maxRecDepth 16384

noncomputable section

namespace Cert.Ffn

open Idealize.ShloMosaic Cert.Kernel2Ideal Cert.Kernel2Ideal.Gen

variable (v0 v2 : Vec Ideal S512x1024 .bf16) (v6 : Vec Ideal S1024x1024 .f32) (v7 : Vec Ideal S1024x1024 .bf16)
  (v21 : Vec Ideal S1x1024 .f32) (v26 v29 : Vec Ideal S1024x2816 .bf16) (v36 : Vec Ideal S2816x1024 .bf16)

theorem pay2_apply (r c : Fin 1024) :
    k0_pay2 v0 v2 v6 v7 (ix2 r c)
      = hid (fun c => v6 (ix2 r c)) (join (fun k => v0 (ix2 k r)) (fun k => v2 (ix2 k r))) (fun k c => v7 (ix2 k c)) c := by
  unfold k0_pay2 hid join
  pointwise

theorem pay3_apply (r : Fin 1024) (f : Fin 2816) :
    k0_pay3 v0 v2 v6 v7 v21 v26 v29 (ix2 r f)
      = act (nrm (fun c => k0_pay2 v0 v2 v6 v7 (ix2 r c)) (fun c => v21 (ix2 0 c))) (fun k f => v26 (ix2 k f)) (fun k f => v29 (ix2 k f)) f := by
  unfold k0_pay3 act nrm
  pointwise

theorem pay1_apply (h : FVec Ideal S1024x1024 .f32) (a : FVec Ideal S1024x2816 .bf16) (r c : Fin 1024) :
    k0_pay1 h a v36 (ix2 r c) = h (ix2 r c) + ∑ f : Fin 2816, a (ix2 r f) * v36 (ix2 f c) := by
  unfold k0_pay1
  pointwise

end Cert.Ffn

end
-- ==== Proof.FfnRef.lean ====
/- The plain feed-forward reference, entry by entry. -/
module

public import proofs.«01_k».proof.Proof.FfnMath
public import proofs.«01_k».proof.Proof.Gen.Reference2Ideal.Read
public import Idealize.ShloMosaic.Lib.Pointwise

@[expose] public section

set_option maxRecDepth 16384

noncomputable section

namespace Cert.Ffn

open Idealize.ShloMosaic Cert.Reference2Ideal Cert.Reference2Ideal.Read

variable (x0 : (⟨S32768x1024, .f32⟩ : BufTy).Contents (Elt Ideal)) (x1 x2 : (⟨S32768x512, .f32⟩ : BufTy).Contents (Elt Ideal))
  (x3 : (⟨S1024x1024, .f32⟩ : BufTy).Contents (Elt Ideal)) (x4 : (⟨S1024, .f32⟩ : BufTy).Contents (Elt Ideal))
  (x5 x6 : (⟨S1024x2816, .f32⟩ : BufTy).Contents (Elt Ideal)) (x7 : (⟨S2816x1024, .f32⟩ : BufTy).Contents (Elt Ideal))

theorem ref_hid (r : Fin 32768) (c : Fin 1024) :
    val_main_v2 x0 x1 x2 x3 (ix2 r c)
      = hid (fun c => x0 (ix2 r c)) (join (fun k => x1 (ix2 r k)) (fun k => x2 (ix2 r k))) (fun k c => x3 (ix2 k c)) c := by
  unfold val_main_v2 val_main_v1 val_main_v0 hid join
  pointwise

theorem ref_nrm (r : Fin 32768) (c : Fin 1024) :
    val_main_v15 x0 x1 x2 x3 x4 (ix2 r c)
      = nrm (fun c => val_main_v2 x0 x1 x2 x3 (ix2 r c)) (fun c => x4 (ix1 c)) c := by
  unfold val_main_v15 val_main_v14 val_main_v13 val_main_v12 val_main_v11 val_main_v10 val_main_v9 val_main_v8 val_main_v7 val_main_v6
    val_main_v5 val_main_v4 val_main_v3 val_main_cst val_main_cst_0 val_main_cst_1 nrm
  pointwise

theorem ref_act (r : Fin 32768) (f : Fin 2816) :
    val_main_v19 x0 x1 x2 x3 x4 x5 x6 (ix2 r f)
      = act (fun c => val_main_v15 x0 x1 x2 x3 x4 (ix2 r c)) (fun k f => x5 (ix2 k f)) (fun k f => x6 (ix2 k f)) f := by
  unfold val_main_v19 val_main_v18 val_main_v17 val_main_call0_v5 val_main_call0_v4 val_main_call0_v3 val_main_call0_v2 val_main_call0_v1 val_main_call0_v0
    val_main_v16 val_main_call0_cst val_main_call0_cst_0 act Ideal.logistic
  pointwise

theorem ref_layer (r : Fin 32768) (c : Fin 1024) :
    val_main_v21 x0 x1 x2 x3 x4 x5 x6 x7 (ix2 r c)
      = layer (fun c => x0 (ix2 r c)) (join (fun k => x1 (ix2 r k)) (fun k => x2 (ix2 r k))) (fun k c => x3 (ix2 k c)) (fun c => x4 (ix1 c))
          (fun k f => x5 (ix2 k f)) (fun k f => x6 (ix2 k f)) (fun f c => x7 (ix2 f c)) c := by
  unfold layer
  rw [← ref_hid]
  have e : ∀ f, act (nrm (hid (fun c => x0 (ix2 r c)) (join (fun k => x1 (ix2 r k)) (fun k => x2 (ix2 r k))) (fun k c => x3 (ix2 k c))) (fun c => x4 (ix1 c)))
      (fun k f => x5 (ix2 k f)) (fun k f => x6 (ix2 k f)) f = val_main_v19 x0 x1 x2 x3 x4 x5 x6 (ix2 r f) := by
    intro f
    rw [ref_act]
    congr 1
    funext c
    rw [ref_nrm]
    congr 1
    funext c
    rw [ref_hid]
  simp only [e]
  unfold val_main_v21 val_main_v20
  pointwise

end Cert.Ffn

end
-- ==== Proof.Ffn.lean ====
/- The feed-forward kernel's result array is the reference's. -/
module

public import proofs.«01_k».proof.Proof.FfnPay
public import proofs.«01_k».proof.Proof.FfnRef
public import proofs.«01_k».proof.Defs
public import Idealize.ShloMosaic.Lib.Claim
public import Idealize.ShloMosaic.Lib.Quiescent

@[expose] public section

set_option maxRecDepth 16384

noncomputable section

namespace Cert.Ffn

open Idealize.ShloMosaic Idealize.ShloMosaic.TcCoe Idealize.SL.Sem
open Cert.Kernel2Ideal Cert.Kernel2Ideal.Gen
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block indices: the row windows move with the point, the column windows likewise, the weights stay. -/
theorem idx : ∀ t : Fin grid0.N, win0_0.index t 0 = t.val ∧ win0_0.index t 1 = 0 ∧ win0_1.index t 0 = 0 ∧ win0_1.index t 1 = t.val
    ∧ win0_2.index t 0 = 0 ∧ win0_2.index t 1 = t.val ∧ win0_8.index t 0 = t.val ∧ win0_8.index t 1 = 0 :=
  by decide +kernel
theorem idxw : ∀ t : Fin grid0.N, (∀ a, win0_3.index t a = 0) ∧ (∀ a, win0_4.index t a = 0) ∧ (∀ a, win0_5.index t a = 0)
    ∧ (∀ a, win0_6.index t a = 0) ∧ (∀ a, win0_7.index t a = 0) :=
  by decide +kernel

/-- Row `r` of point `t`'s block is row `1024 t + r` of the array. -/
abbrev row (t : Fin grid0.N) (r : Fin 1024) : Fin 32768 := ⟨t.val * 1024 + r.val, by
  have h : t.val < 32 := N_0 ▸ t.isLt; omega⟩

theorem blk0 (c : Dev nD) (t : Fin cfg0.N) (r k : Fin 1024) :
    iblk m c 0 t (ix2 r k) = m ((c : Thread nD τ).loc main_arg0) (ix2 (row t r) k) := by
  unfold iblk
  rw [View.read_apply]
  show V m c main_arg0 _ = _
  rw [V_main_arg0]
  congr 1
  funext a
  apply Fin.ext
  obtain ⟨h0, h1, _⟩ := idx t
  match a with
  | ⟨0, _⟩ => show win0_0.index t 0 * 1024 + 1 * r.val = t.val * 1024 + r.val; rw [h0]; omega
  | ⟨1, _⟩ => show win0_0.index t 1 * 1024 + 1 * k.val = k.val; rw [h1]; omega

theorem blk1 (c : Dev nD) (t : Fin cfg0.N) (k : Fin 512) (r : Fin 1024) :
    iblk m c 1 t (ix2 k r) = m ((c : Thread nD τ).loc main_arg1) (ix2 (row t r) k) := by
  unfold iblk
  rw [View.read_apply]
  have e : ((cfg0.win 1).blk t).view.emb (ix2 k r) = ix2 k (row t r) := by
    funext a
    apply Fin.ext
    obtain ⟨-, -, h10, h11, h20, h21, -⟩ := idx t
    match a with
    | ⟨0, _⟩ => show win0_1.index t 0 * 512 + 1 * k.val = _; rw [h10]; show 0 * 512 + 1 * k.val = k.val; omega
    | ⟨1, _⟩ => show win0_1.index t 1 * 1024 + 1 * r.val = _; rw [h11]; show t.val * 1024 + 1 * r.val = t.val * 1024 + r.val; omega
  rw [e]
  entry_read
  refine (cast_eq _ _).trans ?_
  pointwise

theorem blk2 (c : Dev nD) (t : Fin cfg0.N) (k : Fin 512) (r : Fin 1024) :
    iblk m c 2 t (ix2 k r) = m ((c : Thread nD τ).loc main_arg2) (ix2 (row t r) k) := by
  unfold iblk
  rw [View.read_apply]
  have e : ((cfg0.win 2).blk t).view.emb (ix2 k r) = ix2 k (row t r) := by
    funext a
    apply Fin.ext
    obtain ⟨-, -, h10, h11, h20, h21, -⟩ := idx t
    match a with
    | ⟨0, _⟩ => show win0_2.index t 0 * 512 + 1 * k.val = _; rw [h20]; show 0 * 512 + 1 * k.val = k.val; omega
    | ⟨1, _⟩ => show win0_2.index t 1 * 1024 + 1 * r.val = _; rw [h21]; show t.val * 1024 + 1 * r.val = t.val * 1024 + r.val; omega
  rw [e]
  entry_read
  refine (cast_eq _ _).trans ?_
  pointwise

theorem blk3 (c : Dev nD) (t : Fin cfg0.N) (k : Fin 1024) (l : Fin 1024) :
    iblk m c 3 t (ix2 k l) = m ((c : Thread nD τ).loc main_arg3) (ix2 k l) := by
  unfold iblk
  rw [View.read_apply]
  have e : ((cfg0.win 3).blk t).view.emb (ix2 k l) = ix2 k l := by
    funext a
    apply Fin.ext
    obtain ⟨h, -⟩ := idxw t
    match a with
    | ⟨0, _⟩ => show win0_3.index t 0 * 1024 + 1 * k.val = _; rw [h]; show 0 * 1024 + 1 * k.val = k.val; omega
    | ⟨1, _⟩ => show win0_3.index t 1 * 1024 + 1 * l.val = _; rw [h]; show 0 * 1024 + 1 * l.val = l.val; omega
  rw [e]
  entry_read
  refine (cast_eq _ _).trans ?_
  rfl

theorem blk5 (c : Dev nD) (t : Fin cfg0.N) (k : Fin 1024) (l : Fin 2816) :
    iblk m c 5 t (ix2 k l) = m ((c : Thread nD τ).loc main_arg5) (ix2 k l) := by
  unfold iblk
  rw [View.read_apply]
  have e : ((cfg0.win 5).blk t).view.emb (ix2 k l) = ix2 k l := by
    funext a
    apply Fin.ext
    obtain ⟨-, -, h, -⟩ := idxw t
    match a with
    | ⟨0, _⟩ => show win0_5.index t 0 * 1024 + 1 * k.val = _; rw [h]; show 0 * 1024 + 1 * k.val = k.val; omega
    | ⟨1, _⟩ => show win0_5.index t 1 * 2816 + 1 * l.val = _; rw [h]; show 0 * 2816 + 1 * l.val = l.val; omega
  rw [e]
  entry_read
  refine (cast_eq _ _).trans ?_
  rfl

theorem blk6 (c : Dev nD) (t : Fin cfg0.N) (k : Fin 1024) (l : Fin 2816) :
    iblk m c 6 t (ix2 k l) = m ((c : Thread nD τ).loc main_arg6) (ix2 k l) := by
  unfold iblk
  rw [View.read_apply]
  have e : ((cfg0.win 6).blk t).view.emb (ix2 k l) = ix2 k l := by
    funext a
    apply Fin.ext
    obtain ⟨-, -, -, h, -⟩ := idxw t
    match a with
    | ⟨0, _⟩ => show win0_6.index t 0 * 1024 + 1 * k.val = _; rw [h]; show 0 * 1024 + 1 * k.val = k.val; omega
    | ⟨1, _⟩ => show win0_6.index t 1 * 2816 + 1 * l.val = _; rw [h]; show 0 * 2816 + 1 * l.val = l.val; omega
  rw [e]
  entry_read
  refine (cast_eq _ _).trans ?_
  rfl

theorem blk7 (c : Dev nD) (t : Fin cfg0.N) (k : Fin 2816) (l : Fin 1024) :
    iblk m c 7 t (ix2 k l) = m ((c : Thread nD τ).loc main_arg7) (ix2 k l) := by
  unfold iblk
  rw [View.read_apply]
  have e : ((cfg0.win 7).blk t).view.emb (ix2 k l) = ix2 k l := by
    funext a
    apply Fin.ext
    obtain ⟨-, -, -, -, h⟩ := idxw t
    match a with
    | ⟨0, _⟩ => show win0_7.index t 0 * 2816 + 1 * k.val = _; rw [h]; show 0 * 2816 + 1 * k.val = k.val; omega
    | ⟨1, _⟩ => show win0_7.index t 1 * 1024 + 1 * l.val = _; rw [h]; show 0 * 1024 + 1 * l.val = l.val; omega
  rw [e]
  entry_read
  refine (cast_eq _ _).trans ?_
  rfl

theorem blk4 (c : Dev nD) (t : Fin cfg0.N) (l : Fin 1024) :
    iblk m c 4 t (ix2 (0 : Fin 1) l) = m ((c : Thread nD τ).loc main_arg4) (ix1 l) := by
  unfold iblk
  rw [View.read_apply]
  have e : ((cfg0.win 4).blk t).view.emb (ix2 (0 : Fin 1) l) = ix2 0 l := by
    funext a
    apply Fin.ext
    obtain ⟨-, h, -⟩ := idxw t
    match a with
    | ⟨0, _⟩ => show win0_4.index t 0 * 1 + 1 * (0 : Fin 1).val = _; rw [h]; rfl
    | ⟨1, _⟩ => show win0_4.index t 1 * 1024 + 1 * l.val = _; rw [h]; show 0 * 1024 + 1 * l.val = l.val; omega
  rw [e]
  entry_read
  refine (cast_eq _ _).trans ?_
  pointwise

/-- The result array: the reference's function of the arguments. -/
def result (c : Dev nD) : Buf (Elt Ideal) ((c : Thread nD τ).loc main_v9) :=
  Cert.Reference2Ideal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem flushed_eq (c : Dev nD) (t : Fin cfg0.N) :
    (dats m 0 c).flushed 8 t = ((cfg0.win 8).blk t).view.read (Elt Ideal) (result m c) := by
  rw [Cert.Kernel2Ideal.Value.flushed8]
  unfold out0_8
  rw [View.canon_unit_zero hz]
  simp only [r0_0, r0_1, r0_2, r0_3, r0_4, View.ld_unit_zero (S := S1024x1024) hz, View.ld_unit_zero (S := S512x1024) hz,
    View.ld_unit_zero (S := S1x1024) hz, View.ld_unit_zero (S := S1024x2816) hz, View.ld_unit_zero (S := S2816x1024) hz]
  funext j
  obtain ⟨r, k, rfl⟩ : ∃ r k : Fin 1024, j = ix2 r k := ⟨j 0, j 1, eq_ix2 j⟩
  rw [View.read_apply]
  have e : ((cfg0.win 8).blk t).view.emb (ix2 r k) = ix2 (row t r) k := by
    funext a
    apply Fin.ext
    obtain ⟨-, -, -, -, -, -, h0, h1⟩ := idx t
    match a with
    | ⟨0, _⟩ => show win0_8.index t 0 * 1024 + 1 * r.val = _; rw [h0]; show t.val * 1024 + 1 * r.val = t.val * 1024 + r.val; omega
    | ⟨1, _⟩ => show win0_8.index t 1 * 1024 + 1 * k.val = _; rw [h1]; show 0 * 1024 + 1 * k.val = k.val; omega
  rw [e]
  show _ = result m c (ix2 (row t r) k)
  unfold result
  rw [ref_layer]
  refine (pay1_apply _ _ _ r k).trans ?_
  simp only [pay2_apply, pay3_apply, blk0, blk1, blk2, blk3, blk4, blk5, blk6, blk7]
  rfl

theorem final (c : Dev nD) : (dats m 0 c).arrAt 8 cfg0.N = result m c :=
  (dats m 0 c).arrAt_eq_of_cover 8 (result m c) (fun t _ => flushed_eq m c t) fun i => by
    have h0 : (i 0 : Nat) < 32768 := (i 0).isLt
    have h1 : (i 1 : Nat) < 1024 := (i 1).isLt
    have hN : cfg0.N = 32 := N_0
    obtain ⟨t, ht⟩ : ∃ t : Fin cfg0.N, t.val = (i 0 : Nat) / 1024 := ⟨⟨(i 0 : Nat) / 1024, by omega⟩, rfl⟩
    refine ⟨t, flush0_8 _, ?_⟩
    show i ∈ ((View.whole main_v9).slice (win0_8.rect t)).set
    rw [View.set_slice_whole, Rect.mem_set_unit]
    intro a
    obtain ⟨-, -, -, -, -, -, e0, e1⟩ := idx t
    match a with
    | ⟨0, _⟩ => show win0_8.index t 0 * 1024 ≤ (i 0 : Nat) ∧ (i 0 : Nat) < win0_8.index t 0 * 1024 + 1024
                rw [e0]; omega
    | ⟨1, _⟩ => show win0_8.index t 1 * 1024 ≤ (i 1 : Nat) ∧ (i 1 : Nat) < win0_8.index t 1 * 1024 + 1024
                rw [e1]; omega

theorem algebraic [Cert.Kernel2Ideal.Facts] [Cert.Reference2Ideal.Facts] : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7⟩ := hagree c
    rw [final, Cert.Reference2Ideal.Read.val_main_v21_eq, h0, h1, h2, h3, h4, h5, h6, h7]
    rfl

end Cert.Ffn

end
-- ==== Proof.MobaMath.lean ====
/- Block-sparse attention of one head over the reals: the gates, the chosen blocks, and the softmax over the keys allowed. -/
module

public import Idealize.ShloMosaic.PureOps.Ideal.Laws

@[expose] public section

noncomputable section

namespace Cert.Moba

open Idealize.ShloMosaic
open scoped Classical

theorem coe_sum {ι : Type*} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- The block of a position. -/
def blk (s : Fin 2048) : Fin 8 := ⟨s.val / 256, by omega⟩

/-- Whether block `i` comes before block `j` in the order of the gates: larger ones first, of equal ones the lower. -/
def beat (g : Fin 8 → EReal) (i j : Fin 8) : Prop := g j < g i ∨ (g i = g j ∧ i < j)

/-- The number of blocks that come before block `j`. -/
def rank (g : Fin 8 → EReal) (j : Fin 8) : ℕ := ∑ i : Fin 8, if beat g i j then 1 else 0

variable (Q K : Fin 2048 → Fin 64 → ℝ) (V : Fin 2048 → Fin 64 → EReal)

/-- The score of query `s` against key `t`, not scaled. -/
def score (s t : Fin 2048) : ℝ := ∑ d, Q s d * K t d

/-- The mean of the keys of block `j`. -/
def kmean (j : Fin 8) (d : Fin 64) : ℝ := (∑ t, if blk t = j then K t d else 0) / 256

/-- The gates of query `s`: its scores against the means of the past blocks. -/
def gate (s : Fin 2048) (j : Fin 8) : EReal := if j < blk s then ((∑ d, Q s d * kmean K j d : ℝ) : EReal) else ⊥

/-- The keys that query `s` attends: those of its own block up to itself, and the past blocks whose gates are among the three
    largest. -/
def allowed (s t : Fin 2048) : Prop := (blk t = blk s ∧ t ≤ s) ∨ (blk t < blk s ∧ rank (gate Q K s) (blk t) < 3)

/-- The weight of key `t` for query `s`. -/
def wgt (s t : Fin 2048) : ℝ := if allowed Q K s t then Real.exp (score Q K s t / 8) else 0

/-- The attention's result. -/
def attn (s : Fin 2048) (d : Fin 64) : EReal :=
  Ideal.div (∑ t, V t d * ((wgt Q K s t : ℝ) : EReal)) ((∑ t, wgt Q K s t : ℝ) : EReal)

theorem rank_congr {g g' : Fin 8 → EReal} {j : Fin 8} (h : ∀ i, beat g i j ↔ beat g' i j) : rank g j = rank g' j :=
  Finset.sum_congr rfl fun i _ => if_congr (h i) rfl rfl

/-- The order of the gates is the order of their positive multiples. -/
theorem beat_scale {c : ℝ} (hc : 0 < c) (f : Fin 8 → ℝ) (n : Fin 8) (i j : Fin 8) :
    beat (fun j => if j < n then ((f j * c : ℝ) : EReal) else ⊥) i j ↔ beat (fun j => if j < n then ((f j : ℝ) : EReal) else ⊥) i j := by
  unfold beat
  by_cases hi : i < n <;> by_cases hj : j < n <;>
    simp [hi, hj, EReal.coe_lt_coe_iff, -EReal.coe_mul, mul_lt_mul_iff_left₀ hc, hc.ne']

/-- The last block beats no block, if its gate is the least. -/
theorem not_beat_last {g : Fin 8 → EReal} (h : g 7 = ⊥) (j : Fin 8) : ¬ beat g 7 j := by
  rintro (h' | h')
  · rw [h] at h'; exact not_lt_bot h'
  · exact absurd h'.2 (by show ¬ (7 : ℕ) < j.val; omega)

theorem gate_last (s : Fin 2048) : gate Q K s 7 = ⊥ := by
  unfold gate
  exact if_neg (by show ¬ (7 : ℕ) < s.val / 256; omega)

end Cert.Moba

end
-- ==== Proof.MobaSort.lean ====
/- The stable sort of the blocks by their gates: its positions are the ranks, and its first three past blocks are the chosen ones. -/
module

public import proofs.«01_k».proof.Proof.MobaMath
public import Idealize.ShloMosaic.Lib.SortFacts

@[expose] public section

noncomputable section

namespace Cert.Moba

open Idealize.ShloMosaic
open scoped Classical

theorem beat_le {g : Fin 8 → EReal} {i j : Fin 8} (h : beat g i j) : g j ≤ g i := h.elim le_of_lt fun h => h.1.ge

theorem beat_of_le {g : Fin 8 → EReal} {i j : Fin 8} (h : g j ≤ g i) (l : i < j) : beat g i j :=
  h.lt_or_eq.imp id fun e => ⟨e.symm, l⟩

theorem not_beat_self (g : Fin 8 → EReal) (i : Fin 8) : ¬ beat g i i := by
  rintro (h | h)
  · exact lt_irrefl _ h
  · exact lt_irrefl _ h.2

theorem beat_asymm {g : Fin 8 → EReal} {i j : Fin 8} (h : beat g i j) : ¬ beat g j i := by
  rintro h'
  rcases h with h | h
  · exact absurd (beat_le h') (not_le.mpr h)
  · rcases h' with h' | h'
    · rw [h.1] at h'; exact lt_irrefl _ h'
    · exact lt_asymm h.2 h'.2

section

variable (g : Fin 8 → EReal) (bf : Fin 8 → Fin 8 → Bool) (hb : ∀ x y, bf x y = true ↔ g y < g x)

include hb

theorem insert_beat (a : Fin 8) (l : List (Fin 8)) (ha : ∀ x ∈ l, a < x) (hl : l.Pairwise (beat g)) :
    (insertBefore bf a l).Pairwise (beat g) := by
  induction l with
  | nil => exact List.pairwise_singleton _ _
  | cons c l ih =>
    obtain ⟨hc, hl'⟩ := List.pairwise_cons.mp hl
    unfold insertBefore
    by_cases e : bf c a = true
    · rw [if_pos e]
      refine List.pairwise_cons.mpr ⟨fun x hx => ?_, ih (fun x hx => ha x (List.mem_cons_of_mem _ hx)) hl'⟩
      rcases List.mem_cons.mp ((perm_insertBefore bf a l).mem_iff.mp hx) with rfl | hx'
      · exact Or.inl ((hb _ _).mp e)
      · exact hc x hx'
    · rw [if_neg e]
      have le : g c ≤ g a := not_lt.mp fun h => e ((hb _ _).mpr h)
      refine List.pairwise_cons.mpr ⟨fun x hx => ?_, hl⟩
      rcases List.mem_cons.mp hx with rfl | hx'
      · exact beat_of_le le (ha _ hx)
      · exact beat_of_le ((beat_le (hc x hx')).trans le) (ha x hx)

theorem sort_beat (l : List (Fin 8)) (hl : l.Pairwise (· < ·)) : (stableSort bf l).Pairwise (beat g) := by
  induction l with
  | nil => exact List.Pairwise.nil
  | cons a l ih =>
    obtain ⟨ha, hl'⟩ := List.pairwise_cons.mp hl
    unfold stableSort
    exact insert_beat g bf hb a _ (fun x hx => ha x ((perm_stableSort bf l).mem_iff.mp hx)) (ih hl')

theorem sorted_beat {m n : Fin 8} (h : m < n) : beat g (sortedFrom bf m) (sortedFrom bf n) :=
  List.pairwise_iff_get.mp (sort_beat g bf hb (List.finRange 8) (List.pairwise_lt_finRange 8)) _ _ h

theorem sorted_beat_iff (m n : Fin 8) : beat g (sortedFrom bf m) (sortedFrom bf n) ↔ m < n := by
  refine ⟨fun h => ?_, sorted_beat g bf hb⟩
  rcases lt_trichotomy m n with l | l | l
  · exact l
  · rw [l] at h; exact absurd h (not_beat_self g _)
  · exact absurd h (beat_asymm (sorted_beat g bf hb l))

omit hb in
/-- The sort as a permutation of the blocks. -/
def sortEquiv : Fin 8 ≃ Fin 8 := Equiv.ofBijective (sortedFrom bf) ⟨sortedFrom_injective bf, sortedFrom_surjective bf⟩

omit hb in
theorem count (n : Fin 8) : (∑ m : Fin 8, if m < n then 1 else 0) = n.val := by
  fin_cases n <;> decide

/-- The block at place `n` has rank `n`. -/
theorem rank_sorted (n : Fin 8) : rank g (sortedFrom bf n) = n.val := by
  unfold rank
  rw [← Equiv.sum_comp (sortEquiv bf), ← count n]
  exact Finset.sum_congr rfl fun m _ => if_congr (sorted_beat_iff g bf hb m n) rfl rfl

end

/-- Where the past blocks alone have a gate, they are those that come first. -/
theorem rank_lt_iff (g : Fin 8 → EReal) (N : Fin 8) (hlo : ∀ j, ¬ j < N → g j = ⊥) (hhi : ∀ j, j < N → g j ≠ ⊥) (j : Fin 8) :
    rank g j < N.val ↔ j < N := by
  unfold rank
  rw [← count N]
  by_cases h : j < N
  · refine iff_of_true (Finset.sum_lt_sum (fun i _ => ?_) ⟨j, Finset.mem_univ _, ?_⟩) h
    · by_cases hi : i < N
      · rw [if_pos hi]; split <;> omega
      · rw [if_neg]
        · exact Nat.zero_le _
        · intro hbt
          have := beat_le hbt
          rw [hlo i hi] at this
          exact hhi j h (le_bot_iff.mp this)
    · rw [if_neg (not_beat_self g j), if_pos h]; exact Nat.one_pos
  · refine iff_of_false (not_lt.mpr (Finset.sum_le_sum fun i _ => ?_)) h
    by_cases hi : i < N
    · rw [if_pos (show beat g i j from Or.inl (by rw [hlo j h]; exact bot_lt_iff_ne_bot.mpr (hhi i hi)))]
      split <;> omega
    · rw [if_neg hi]; exact Nat.zero_le _

/-- A sum over the first three places, past blocks only, is the sum over the chosen blocks. -/
theorem sum_top {M : Type*} [AddCommMonoid M] (g : Fin 8 → EReal) (bf : Fin 8 → Fin 8 → Bool) (hb : ∀ x y, bf x y = true ↔ g y < g x)
    (N : Fin 8) (hlo : ∀ j, ¬ j < N → g j = ⊥) (hhi : ∀ j, j < N → g j ≠ ⊥) (F : Fin 8 → M) :
    (∑ n : Fin 3, if n.val < N.val then F (sortedFrom bf ⟨n.val, by omega⟩) else 0) = ∑ j : Fin 8, if j < N ∧ rank g j < 3 then F j else 0 := by
  rw [← Equiv.sum_comp (sortEquiv bf)]
  have e : ∀ n : Fin 8, (if sortEquiv bf n < N ∧ rank g (sortEquiv bf n) < 3 then F (sortEquiv bf n) else 0)
      = if n.val < N.val ∧ n.val < 3 then F (sortedFrom bf n) else 0 := by
    intro n
    have r : rank g (sortEquiv bf n) = n.val := rank_sorted g bf hb n
    have i := rank_lt_iff g N hlo hhi (sortEquiv bf n)
    rw [r] at i
    exact if_congr (and_congr i.symm (by rw [r])) rfl rfl
  rw [Finset.sum_congr rfl fun n _ => e n, Fin.sum_univ_eight, Fin.sum_univ_three]
  simp

end Cert.Moba

end
-- ==== Proof.MobaRead.lean ====
/- The reference attention's lines at an index: the blocks, the masks, the order of the gates, and the chosen blocks read. -/
module

public import proofs.«01_k».proof.Proof.Gen.ReferenceIdeal.Read
public import proofs.«01_k».proof.Proof.MobaSort
public import Idealize.ShloMosaic.Lib.Pointwise
public import Idealize.ShloMosaic.Lib.WordCmp

@[expose] public section

noncomputable section

namespace Cert.Moba.Ref

open Idealize.ShloMosaic Cert.ReferenceIdeal Cert.ReferenceIdeal.Read Cert.ReferenceIdeal.Gen

/-- Position `r` of block `n`. -/
def pos (n : Fin 8) (r : Fin 256) : Fin 2048 := ⟨n.val * 256 + r.val, by omega⟩

theorem blk_pos (n : Fin 8) (r : Fin 256) : blk (pos n r) = n := Fin.ext (by show (n.val * 256 + r.val) / 256 = n.val; omega)

theorem bot_word : Ideal.ofBits .f32 0xFF800000#32 = (⊥ : EReal) := by simp [Ideal.ofBits, Ideal.ieee]

theorem top_word : Ideal.ofBits .f32 0x7F800000#32 = (⊤ : EReal) := by simp [Ideal.ofBits, Ideal.ieee]

theorem eighth_word : Ideal.ofBits .f32 0x3E000000#32 = ((1 / 8 : ℝ) : EReal) := by
  simp [Ideal.ofBits, Ideal.ieee]
  rw [← EReal.coe_mul]
  congr 1
  norm_num

theorem b256_word : Ideal.ofBits .f32 0x43800000#32 = ((256 : ℝ) : EReal) := by
  simp [Ideal.ofBits, Ideal.ieee]
  rw [← EReal.coe_mul]
  congr 1
  norm_num

theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [Idealize.ShloMosaic.WordCmp.cmpi_slt_ofNat (by omega) (by omega)]
  by_cases h : a < b <;> simp [h, Scalar.select]

theorem select_sge {α : Type} (a b : ℕ) (ha : a < 2 ^ 31) (hb : b < 2 ^ 31) (x y : α) :
    Scalar.select (Scalar.select (IntOp.cmpi .sge (BitVec.ofNat 32 a) (BitVec.ofNat 32 b)) 1#1 0#1) x y = if b ≤ a then x else y := by
  rw [Idealize.ShloMosaic.WordCmp.cmpi_sge_ofNat (by omega) (by omega)]
  by_cases h : b ≤ a <;> simp [h, Scalar.select]

theorem add_zero_word (a : BitVec 32) : IntOp.addi a 0#32 = a := by simp [IntOp.addi]

theorem word_blk : ∀ s : Fin 2048, Scalar.select
      (IntOp.andi
        (IntOp.cmpi CmpIPredicate.ne
          (if BitVec.ofNat 32 s.val = 0 then (0 : BitVec 32) else if (BitVec.ofNat 32 s.val).msb = true then -1 else 1)
          (if (256#32 : BitVec 32) = 0 then (0 : BitVec 32)
          else if BitVec.msb (256#32) = true then -1 else 1))
        (IntOp.cmpi CmpIPredicate.ne (IntOp.remsi ArithUnit.host (BitVec.ofNat 32 s.val) (256#32)) 0#32))
      (IntOp.subi (IntOp.divsi ArithUnit.host (BitVec.ofNat 32 s.val) (256#32)) 1#32)
      (IntOp.divsi ArithUnit.host (BitVec.ofNat 32 s.val) (256#32)) = BitVec.ofNat 32 (s.val / 256) := by
  decide +kernel

/-- The block of a position, as the reference counts it. -/
theorem v4_apply (s : Fin 2048) : val_main_v4 (F := Ideal) (ix1 s) = BitVec.ofNat 32 (blk s).val := by
  unfold val_main_v4 val_main_call0_v11 val_main_call0_v13 val_main_call0_v2 val_main_call0_v6 val_main_call0_v10 val_main_call0_v8
    val_main_call0_v3 val_main_call0_v5 val_main_call0_v4 val_main_call0_v1 val_main_call0_v7 val_main_call0_v9 val_main_call0_v12
    val_main_call0_v0 val_main_v3 val_main_c val_main_call0_c val_main_call0_c_0
  pointwise
  exact word_blk s

variable (x0 x1 x2 : (⟨S16x2048x8x64, .f32⟩ : BufTy).Contents (Elt Ideal))

theorem v0_apply (b : Fin 16) (h : Fin 8) (s : Fin 2048) (d : Fin 64) : val_main_v0 x0 (ix4 b h s d) = x0 (ix4 b s h d) := by
  unfold val_main_v0
  pointwise

theorem v5_apply (b : Fin 16) (h n : Fin 8) (r : Fin 256) (d : Fin 64) : val_main_v5 x0 (ix5 b h n r d) = x0 (ix4 b (pos n r) h d) := by
  unfold val_main_v5 val_main_v0
  pointwise
  rfl

theorem v6_apply (b : Fin 16) (h n : Fin 8) (r : Fin 256) (d : Fin 64) : val_main_v6 x1 (ix5 b h n r d) = x1 (ix4 b (pos n r) h d) := by
  unfold val_main_v6 val_main_v1
  pointwise
  rfl

theorem v7_apply (b : Fin 16) (h n : Fin 8) (r : Fin 256) (d : Fin 64) : val_main_v7 x2 (ix5 b h n r d) = x2 (ix4 b (pos n r) h d) := by
  unfold val_main_v7 val_main_v2
  pointwise
  rfl

theorem v13_read (b : Fin 16) (h n : Fin 8) (r x : Fin 256) : val_main_v13 x0 x1 (ix5 b h n r x)
    = if x ≤ r then (∑ d, x0 (ix4 b (pos n r) h d) * x1 (ix4 b (pos n x) h d)) * ((1 / 8 : ℝ) : EReal) else (⊥ : EReal) := by
  unfold val_main_v13 val_main_call2_v1 val_main_call2_v2 val_main_call2_v0 val_main_cst_1 val_main_v12 val_main_call1_v4 val_main_call1_v5
    val_main_v11 val_main_c_0 val_main_call1_c_0 val_main_call1_v2 val_main_call1_v3 val_main_call1_v1 val_main_call1_v0 val_main_call1_c
    val_main_v10 val_main_v9 val_main_cst val_main_v8
  pointwise
  rw [add_zero_word, select_sge r.val x.val (by omega) (by omega), eighth_word, Finset.sum_congr rfl fun d _ => by rw [v5_apply, v6_apply]]
  exact if_congr Iff.rfl rfl bot_word

theorem v32_read (b : Fin 16) (h : Fin 8) (s : Fin 2048) (j : Fin 8) : val_main_v32 x0 x1 (ix4 b h s j)
    = ∑ d, x0 (ix4 b s h d) * Ideal.div (∑ r, x1 (ix4 b (pos j r) h d)) ((256 : ℝ) : EReal) := by
  unfold val_main_v32 val_main_v31 val_main_v30 val_main_cst_5 val_main_v29 val_main_cst_4 val_main_v0
  pointwise
  rw [b256_word]
  exact Finset.sum_congr rfl fun d _ => by rw [Finset.sum_congr rfl fun r _ => v6_apply x1 b h j r d]

theorem v39_read (b : Fin 16) (h : Fin 8) (s : Fin 2048) (j : Fin 8) : val_main_v39 x0 x1 (ix4 b h s j)
    = if j < blk s then val_main_v32 x0 x1 (ix4 b h s j) else (⊥ : EReal) := by
  unfold val_main_v39 val_main_call3_v1 val_main_call3_v2 val_main_call3_v0 val_main_cst_6 val_main_v38 val_main_v36 val_main_v37
    val_main_v34 val_main_v35 val_main_v33
  pointwise
  rw [v4_apply, select_slt j.val (blk s).val (by omega) (by omega)]
  exact if_congr Iff.rfl rfl bot_word

/-- The comparison of the gates of a query's blocks. -/
def bf (b : Fin 16) (h : Fin 8) (s : Fin 2048) (i j : Fin 8) : Bool :=
  FloatOps.cmpfTotal (F := Ideal) (φ := .f32) .gt (val_main_v39 x0 x1 (ix4 b h s i)) (val_main_v39 x0 x1 (ix4 b h s j)) == 1#1

theorem bf_iff (b : Fin 16) (h : Fin 8) (s : Fin 2048) (i j : Fin 8) :
    bf x0 x1 b h s i j = true ↔ val_main_v39 x0 x1 (ix4 b h s j) < val_main_v39 x0 x1 (ix4 b h s i) := by
  unfold bf
  show (Ideal.cmp .ogt _ _ == 1#1) = true ↔ _
  rw [beq_iff_eq]
  exact Idealize.ShloMosaic.WordCmp.ofBool_decide_eq_one_iff _

/-- The block at place `n` of the order. -/
def top (b : Fin 16) (h : Fin 8) (s : Fin 2048) (n : Fin 3) : Fin 8 := sortedFrom (bf x0 x1 b h s) ⟨n.val, by omega⟩

theorem sort_read (G : S16x8x2048x8.Idx → EReal) (b : Fin 16) (h : Fin 8) (s : Fin 2048) (n : Fin 8) :
    (Host.sort2 S16x8x2048x8 3 (fun l r : EReal × BitVec 32 => Ideal.cmp .ogt l.1 r.1) G fun i => BitVec.ofNat 32 (i 3).val).2 (ix4 b h s n)
      = BitVec.ofNat 32 (sortedFrom (fun i j : Fin 8 => Ideal.cmp .ogt (G (ix4 b h s i)) (G (ix4 b h s j)) == 1#1) n).val := by
  have r3 : 3 < S16x8x2048x8.rank := by decide
  have e : ∀ k : Fin 8, Shape.Idx.along (s := S16x8x2048x8) (ix4 b h s n) ⟨3, r3⟩ k = ix4 b h s k := by
    intro k
    funext a
    match a with
    | ⟨0, _⟩ => rfl
    | ⟨1, _⟩ => rfl
    | ⟨2, _⟩ => rfl
    | ⟨3, _⟩ => rfl
  have f : (fun i j : Fin 8 => Ideal.cmp .ogt (G (ix4 b h s i)) (G (ix4 b h s j)) == 1#1)
      = fun i j : Fin 8 => Ideal.cmp .ogt (G (Shape.Idx.along (s := S16x8x2048x8) (ix4 b h s n) ⟨3, r3⟩ i))
          (G (Shape.Idx.along (s := S16x8x2048x8) (ix4 b h s n) ⟨3, r3⟩ j)) == 1#1 := by
    funext i j
    rw [e i, e j]
  rw [f]
  unfold Host.sort2
  rw [dif_pos r3]
  rfl

theorem indices_apply (b : Fin 16) (h : Fin 8) (s : Fin 2048) (n : Fin 3) :
    val_main_indices x0 x1 (ix4 b h s n) = BitVec.ofNat 32 (top x0 x1 b h s n).val := by
  unfold val_main_indices Host.topK
  pointwise
  exact sort_read (val_main_v39 x0 x1) b h s ⟨n.val, by omega⟩

theorem not_neg (a : ℕ) (c : BitVec 32) (h : a < 2 ^ 31) :
    Scalar.select (IntOp.cmpi .slt (BitVec.ofNat 32 a) 0#32) (IntOp.addi (BitVec.ofNat 32 a) c) (BitVec.ofNat 32 a) = BitVec.ofNat 32 a := by
  rw [show (0#32) = BitVec.ofNat 32 0 from rfl, select_slt a 0 h (by decide), if_neg (Nat.not_lt_zero a)]

theorem v64_apply (b : Fin 16) (h : Fin 8) (s : Fin 2048) (n : Fin 3) :
    val_main_v64 x0 x1 (ix4 b h s n) = BitVec.ofNat 32 (top x0 x1 b h s n).val := by
  unfold val_main_v64 val_main_v61 val_main_v63 val_main_v60 val_main_v62 val_main_c_11 val_main_c_12
  pointwise
  rw [indices_apply]
  exact not_neg _ _ (by omega)

theorem v86_apply (b : Fin 16) (h : Fin 8) (s : Fin 2048) (n : Fin 3) :
    val_main_v86 x0 x1 (ix4 b h s n) = BitVec.ofNat 32 (top x0 x1 b h s n).val := by
  unfold val_main_v86 val_main_v83 val_main_v85 val_main_v82 val_main_v84 val_main_c_17 val_main_c_18
  pointwise
  rw [indices_apply]
  exact not_neg _ _ (by omega)

/-- The three numbers that a row of the chosen blocks is read by. -/
def triple (b : Fin 16) (h : Fin 8) (t : Fin 8) (c : Fin 3) : ℕ := if c.val = 0 then b.val else if c.val = 1 then h.val else t.val

theorem v70_apply (b : Fin 16) (h : Fin 8) (s : Fin 2048) (n c : Fin 3) :
    val_main_v70 x0 x1 (ix5 b h s n c) = BitVec.ofNat 32 (triple b h (top x0 x1 b h s n) c) := by
  unfold val_main_v70 val_main_v69 val_main_v68 val_main_v67 val_main_v66 val_main_v65 val_main_v54 val_main_v51 val_main_v53 val_main_v47
    val_main_v50 val_main_v52 val_main_v46 val_main_c_7 val_main_c_8 val_main_v59 val_main_v56 val_main_v58 val_main_v49 val_main_v55
    val_main_v57 val_main_v48 val_main_c_9 val_main_c_10
  pointwise
  rw [v64_apply, not_neg _ _ (by omega), not_neg _ _ (by omega)]
  unfold triple
  fin_cases c <;> rfl

theorem v92_apply (b : Fin 16) (h : Fin 8) (s : Fin 2048) (n c : Fin 3) :
    val_main_v92 x0 x1 (ix5 b h s n c) = BitVec.ofNat 32 (triple b h (top x0 x1 b h s n) c) := by
  unfold val_main_v92 val_main_v91 val_main_v90 val_main_v89 val_main_v88 val_main_v87 val_main_v76 val_main_v73 val_main_v75 val_main_v47
    val_main_v72 val_main_v74 val_main_v46 val_main_c_13 val_main_c_14 val_main_v81 val_main_v78 val_main_v80 val_main_v49 val_main_v77
    val_main_v79 val_main_v48 val_main_c_15 val_main_c_16
  pointwise
  rw [v86_apply, not_neg _ _ (by omega), not_neg _ _ (by omega)]
  unfold triple
  fin_cases c <;> rfl

/-- A chosen block's row is the row of that block. -/
theorem gather_read {α : Type} (x : S16x8x8x256x64.Idx → α) (idx : IVec S16x8x2048x3x3 32) (b : Fin 16) (h : Fin 8) (s : Fin 2048) (n : Fin 3)
    (t : Fin 8) (r : Fin 256) (d : Fin 64) (hi : ∀ c : Fin 3, idx (ix5 b h s n c) = BitVec.ofNat 32 (triple b h t c)) :
    Host.gather gather_S16x8x8x256x64_S16x8x2048x3x3_S16x8x2048x3x256x64_45_012_n_n_012_4_11125664 x idx (ix6 b h s n r d) = x (ix5 b h t r d) := by
  unfold Host.gather
  congr 1
  funext a
  apply Fin.ext
  have si : ∀ c : Fin 3, gather_S16x8x8x256x64_S16x8x2048x3x3_S16x8x2048x3x256x64_45_012_n_n_012_4_11125664.siIdx (ix6 b h s n r d) c = ix5 b h s n c := by
    intro c
    funext a
    match a with
    | ⟨0, _⟩ => rfl
    | ⟨1, _⟩ => rfl
    | ⟨2, _⟩ => rfl
    | ⟨3, _⟩ => rfl
    | ⟨4, _⟩ => rfl
  have num : ∀ (c : Fin 3) (N : ℕ), triple b h t c ≤ N → triple b h t c < 2 ^ 31 →
      min (idx (gather_S16x8x8x256x64_S16x8x2048x3x3_S16x8x2048x3x256x64_45_012_n_n_012_4_11125664.siIdx (ix6 b h s n r d) c)).toInt.toNat N = triple b h t c := by
    intro c N hN hlt
    rw [si c, hi c, Idealize.ShloMosaic.WordCmp.toInt_ofNat_of_lt (by omega), Int.toNat_natCast, min_eq_left hN]
  match a with
  | ⟨0, _⟩ => exact num 0 15 (by show b.val ≤ 15; omega) (by show b.val < _; omega)
  | ⟨1, _⟩ => exact num 1 7 (by show h.val ≤ 7; omega) (by show h.val < _; omega)
  | ⟨2, _⟩ => exact num 2 7 (by show t.val ≤ 7; omega) (by show t.val < _; omega)
  | ⟨3, _⟩ => exact Nat.zero_add r.val
  | ⟨4, _⟩ => exact Nat.zero_add d.val

theorem v71_apply (b : Fin 16) (h : Fin 8) (s : Fin 2048) (n : Fin 3) (r : Fin 256) (d : Fin 64) :
    val_main_v71 x0 x1 (ix6 b h s n r d) = x1 (ix4 b (pos (top x0 x1 b h s n) r) h d) :=
  (gather_read _ _ b h s n _ r d (v70_apply x0 x1 b h s n)).trans (v6_apply x1 b h _ r d)

theorem v93_apply (b : Fin 16) (h : Fin 8) (s : Fin 2048) (n : Fin 3) (r : Fin 256) (d : Fin 64) :
    val_main_v93 x0 x1 x2 (ix6 b h s n r d) = x2 (ix4 b (pos (top x0 x1 b h s n) r) h d) :=
  (gather_read _ _ b h s n _ r d (v92_apply x0 x1 b h s n)).trans (v7_apply x2 b h _ r d)

theorem v98_read (b : Fin 16) (h : Fin 8) (s : Fin 2048) (n : Fin 3) (x : Fin 256) : val_main_v98 x0 x1 (ix5 b h s n x)
    = if n.val < (blk s).val then (∑ d, x0 (ix4 b s h d) * x1 (ix4 b (pos (top x0 x1 b h s n) x) h d)) * ((1 / 8 : ℝ) : EReal) else (⊥ : EReal) := by
  unfold val_main_v98 val_main_call4_v1 val_main_call4_v2 val_main_call4_v0 val_main_cst_20 val_main_v97 val_main_v96 val_main_v95
    val_main_cst_19 val_main_v94 val_main_v45 val_main_v43 val_main_v44 val_main_v42 val_main_v41 val_main_v40
  pointwise
  rw [v4_apply, select_slt n.val (blk s).val (by omega) (by omega), eighth_word, Finset.sum_congr rfl fun d _ => by rw [v0_apply, v71_apply]]
  exact if_congr Iff.rfl rfl bot_word

end Cert.Moba.Ref

end
-- ==== Proof.MobaRead2.lean ====
/- The two partial softmaxes of the reference attention and their merge, at an index. -/
module

public import proofs.«01_k».proof.Proof.MobaRead

@[expose] public section

noncomputable section

namespace Cert.Moba.Ref

open Idealize.ShloMosaic Cert.ReferenceIdeal Cert.ReferenceIdeal.Read Cert.ReferenceIdeal.Gen

theorem exp_sub (a b : Ideal .f32) : FloatOps.hostUnary (F := Ideal) .exp (FloatOps.subf (F := Ideal) (φ := .f32) a b) = Ideal.exp (a - b) := rfl

theorem add_log (a b : Ideal .f32) :
    FloatOps.addf (F := Ideal) (φ := .f32) a (FloatOps.hostUnary (F := Ideal) .log b) = a + Ideal.log b := rfl

theorem maximum_eq (a b : Ideal .f32) : FloatOps.maximumf (F := Ideal) (φ := .f32) a b = max a b := rfl

theorem merge_eq (a b c d e f : Ideal .f32) :
    FloatOps.hostDivf (FloatOps.addf (FloatOps.mulf a b) (FloatOps.mulf c d)) (FloatOps.addf e f) = Ideal.div (a * b + c * d) (e + f) := rfl

/-- A value kept where it is finite is never minus infinity. -/
theorem finite_select (a z : Ideal .f32) (hz : z = (0 : EReal)) (h : a ≠ (⊤ : EReal)) :
    ∃ m : ℝ, Scalar.select (FloatOps.cmpf .olt (FloatOps.hostAbsf a) (Ideal.ofBits .f32 0x7F800000#32)) a z = (m : EReal) := by
  rw [top_word]
  rcases eq_or_ne a (⊥ : EReal) with e | e
  · rw [e]
    refine ⟨0, ?_⟩
    have c : FloatOps.cmpf (F := Ideal) (φ := .f32) .olt (FloatOps.hostAbsf (F := Ideal) (φ := .f32) (⊥ : EReal)) (⊤ : EReal) = 0#1 := by
      show BitVec.ofBool (decide (max (⊥ : EReal) (-⊥) < ⊤)) = 0#1
      rw [EReal.neg_bot, max_eq_right bot_le, decide_eq_false (lt_irrefl _)]
      rfl
    rw [c, hz]
    rfl
  · have r : a = ((EReal.toReal a : ℝ) : EReal) := (EReal.coe_toReal h e).symm
    unfold Scalar.select
    split
    · exact ⟨_, r⟩
    · exact ⟨0, hz⟩

variable (x0 x1 x2 : (⟨S16x2048x8x64, .f32⟩ : BufTy).Contents (Elt Ideal))

theorem v14_read (b : Fin 16) (h n : Fin 8) (r : Fin 256) :
    val_main_v14 x0 x1 (ix4 b h n r) = Finset.univ.fold max (⊥ : EReal) fun x : Fin 256 => val_main_v13 x0 x1 (ix5 b h n r x) := by
  unfold val_main_v14
  generalize val_main_v13 x0 x1 = A
  unfold val_main_cst_2
  pointwise
  rw [bot_word]

theorem v18_read (b : Fin 16) (h n : Fin 8) (r x : Fin 256) :
    val_main_v18 x0 x1 (ix5 b h n r x) = Ideal.exp ((val_main_v13 x0 x1 (ix5 b h n r x) : EReal) - (val_main_v14 x0 x1 (ix4 b h n r) : EReal)) := by
  unfold val_main_v18 val_main_v17 val_main_v16 val_main_v15
  pointwise

theorem v19_read (b : Fin 16) (h n : Fin 8) (r : Fin 256) :
    val_main_v19 x0 x1 (ix4 b h n r) = ∑ x : Fin 256, (val_main_v18 x0 x1 (ix5 b h n r x) : EReal) := by
  unfold val_main_v19 val_main_cst_3
  pointwise

theorem v23_read (b : Fin 16) (h n : Fin 8) (r : Fin 256) (d : Fin 64) :
    val_main_v23 x0 x1 x2 (ix5 b h n r d)
      = Ideal.div (∑ x : Fin 256, (val_main_v18 x0 x1 (ix5 b h n r x) : EReal) * (x2 (ix4 b (pos n x) h d) : EReal)) (val_main_v19 x0 x1 (ix4 b h n r)) := by
  have e : ∀ x : Fin 256, (val_main_v7 x2 (ix5 b h n x d) : EReal) = x2 (ix4 b (pos n x) h d) := fun x => v7_apply x2 b h n x d
  rw [Finset.sum_congr rfl fun x _ => by rw [← e x]]
  unfold val_main_v23 val_main_v21 val_main_v22 val_main_v20
  generalize val_main_v18 x0 x1 = A
  generalize val_main_v7 x2 = B
  generalize val_main_v19 x0 x1 = C
  pointwise

/-- The block and the place of a position. -/
def loc (s : Fin 2048) : Fin 256 := ⟨s.val % 256, Nat.mod_lt _ (by decide)⟩

theorem pos_loc (s : Fin 2048) : pos (blk s) (loc s) = s := Fin.ext (by show s.val / 256 * 256 + s.val % 256 = s.val; omega)

theorem v28_read (b : Fin 16) (h : Fin 8) (s : Fin 2048) (d : Fin 64) :
    val_main_v28 x0 x1 x2 (ix4 b h s d) = val_main_v23 x0 x1 x2 (ix5 b h (blk s) (loc s) d) := by
  unfold val_main_v28
  generalize val_main_v23 x0 x1 x2 = A
  pointwise
  rfl

theorem v25_read (b : Fin 16) (h n : Fin 8) (r : Fin 256) : val_main_v25 x0 x1 (ix5 b h n r 0)
    = (val_main_v14 x0 x1 (ix4 b h n r) : EReal) + Ideal.log (val_main_v19 x0 x1 (ix4 b h n r)) := by
  have e1 : val_main_v15 x0 x1 (ix5 b h n r 0) = val_main_v14 x0 x1 (ix4 b h n r) := by
    unfold val_main_v15
    generalize val_main_v14 x0 x1 = A
    pointwise
  have e2 : val_main_v20 x0 x1 (ix5 b h n r 0) = val_main_v19 x0 x1 (ix4 b h n r) := by
    unfold val_main_v20
    generalize val_main_v19 x0 x1 = A
    pointwise
  rw [val_main_v25_apply, val_main_v24_apply, e1, e2]
  exact add_log _ _

theorem v27_read (b : Fin 16) (h : Fin 8) (s : Fin 2048) :
    val_main_v27 x0 x1 (ix3 b h s) = val_main_v25 x0 x1 (ix5 b h (blk s) (loc s) 0) := by
  unfold val_main_v27 val_main_v26
  generalize val_main_v25 x0 x1 = A
  pointwise
  rfl

theorem v99_ne_top (b : Fin 16) (h : Fin 8) (s : Fin 2048) (hx : ∀ i, (val_main_v98 x0 x1 i : EReal) ≠ ⊤) :
    (val_main_v99 x0 x1 (ix3 b h s) : EReal) ≠ ⊤ := by
  unfold val_main_v99
  generalize val_main_v98 x0 x1 = A at hx ⊢
  unfold val_main_cst_21
  pointwise
  refine ((Finset.fold_max_lt _).mpr ⟨?_, fun i _ => lt_top_iff_ne_top.mpr (hx i)⟩).ne
  exact bot_word.trans_lt bot_lt_top

theorem v100_read (b : Fin 16) (h : Fin 8) (s : Fin 2048) : val_main_v100 x0 x1 (ix5 b h s 0 0) = val_main_v99 x0 x1 (ix3 b h s) := by
  unfold val_main_v100
  generalize val_main_v99 x0 x1 = A
  pointwise

theorem v104_real (b : Fin 16) (h : Fin 8) (s : Fin 2048) (hx : ∀ i, (val_main_v98 x0 x1 i : EReal) ≠ ⊤) :
    ∃ m : ℝ, val_main_v104 x0 x1 (ix5 b h s 0 0) = (m : EReal) := by
  rw [val_main_v104_apply, val_main_v103_apply, val_main_v101_apply, v100_read]
  refine finite_select _ _ ?_ (v99_ne_top x0 x1 b h s hx)
  exact Ideal.ofBits_zero_f32

theorem v107_read (b : Fin 16) (h : Fin 8) (s : Fin 2048) (n : Fin 3) (x : Fin 256) : val_main_v107 x0 x1 (ix5 b h s n x)
    = Ideal.exp ((val_main_v98 x0 x1 (ix5 b h s n x) : EReal) - (val_main_v104 x0 x1 (ix5 b h s 0 0) : EReal)) := by
  unfold val_main_v107 val_main_v106 val_main_v105
  pointwise

theorem sum_two_axes (A : S16x8x2048x3x256.Idx → EReal) (b : Fin 16) (h : Fin 8) (s : Fin 2048) :
    ∑ i ∈ Finset.univ.filter (fun i => reducesTo_S16x8x2048x3x256_S16x8x2048_d3_4.drop i = ix3 b h s), A i
      = ∑ p : Fin 3 × Fin 256, A (ix5 b h s p.1 p.2) := by
  refine Finset.sum_bij' (fun i _ => ((i 3 : Fin 3), (i 4 : Fin 256))) (fun p _ => ix5 b h s p.1 p.2) (fun _ _ => Finset.mem_univ _) ?_ ?_ ?_ ?_
  · intro p _
    refine Finset.mem_filter.mpr ⟨Finset.mem_univ _, ?_⟩
    funext a
    match a with
    | ⟨0, _⟩ => rfl
    | ⟨1, _⟩ => rfl
    | ⟨2, _⟩ => rfl
  · intro i hi
    have e := (Finset.mem_filter.mp hi).2
    funext a
    match a with
    | ⟨0, _⟩ => exact (congrFun e 0).symm
    | ⟨1, _⟩ => exact (congrFun e 1).symm
    | ⟨2, _⟩ => exact (congrFun e 2).symm
    | ⟨3, _⟩ => rfl
    | ⟨4, _⟩ => rfl
  · intro p _
    rfl
  · intro i hi
    have e := (Finset.mem_filter.mp hi).2
    congr 1
    funext a
    match a with
    | ⟨0, _⟩ => exact congrFun e 0
    | ⟨1, _⟩ => exact congrFun e 1
    | ⟨2, _⟩ => exact congrFun e 2
    | ⟨3, _⟩ => rfl
    | ⟨4, _⟩ => rfl

theorem v108_read (b : Fin 16) (h : Fin 8) (s : Fin 2048) :
    val_main_v108 x0 x1 (ix3 b h s) = ∑ p : Fin 3 × Fin 256, (val_main_v107 x0 x1 (ix5 b h s p.1 p.2) : EReal) := by
  rw [← sum_two_axes]
  unfold val_main_v108
  generalize val_main_v107 x0 x1 = A
  unfold val_main_cst_24
  pointwise
  exact zero_add _

theorem v115_read (b : Fin 16) (h : Fin 8) (s : Fin 2048) (d : Fin 64) : val_main_v115 x0 x1 x2 (ix4 b h s d)
    = Ideal.div (∑ p : Fin 3 × Fin 256, (val_main_v107 x0 x1 (ix5 b h s p.1 p.2) : EReal) * (x2 (ix4 b (pos (top x0 x1 b h s p.1) p.2) h d) : EReal))
        (if (0 : EReal) < val_main_v108 x0 x1 (ix3 b h s) then val_main_v108 x0 x1 (ix3 b h s) else 1) := by
  have e : ∀ p : Fin 3 × Fin 256, (x2 (ix4 b (pos (top x0 x1 b h s p.1) p.2) h d) : EReal) = val_main_v93 x0 x1 x2 (ix6 b h s p.1 p.2 d) :=
    fun p => (v93_apply x0 x1 x2 b h s p.1 p.2 d).symm
  rw [Finset.sum_congr rfl fun p _ => by rw [e p]]
  rw [Fintype.sum_prod_type_right]
  have o : (1 : EReal) = id (constant (F := Ideal) S_ .f32 0x3F800000#32) ix0 := Ideal.ofBits_one_f32.symm
  rw [o]
  unfold val_main_v115 val_main_v109 val_main_v114 val_main_v113 val_main_v112 val_main_v111 val_main_v110 val_main_cst_25 val_main_call6_v1
    val_main_call6_v0 val_main_cst_26
  pointwise

theorem v118_read (b : Fin 16) (h : Fin 8) (s : Fin 2048) : val_main_v118 x0 x1 (ix3 b h s)
    = (val_main_v104 x0 x1 (ix5 b h s 0 0) : EReal) + Ideal.log (val_main_v108 x0 x1 (ix3 b h s)) := by
  have e : val_main_v116 x0 x1 (ix3 b h s) = val_main_v104 x0 x1 (ix5 b h s 0 0) := by
    unfold val_main_v116
    generalize val_main_v104 x0 x1 = A
    pointwise
  rw [val_main_v118_apply, val_main_v117_apply, e]
  exact add_log _ _

theorem v121_read (b : Fin 16) (h : Fin 8) (s : Fin 2048) : val_main_v121 x0 x1 (ix3 b h s)
    = Ideal.exp ((val_main_v27 x0 x1 (ix3 b h s) : EReal) - max (val_main_v27 x0 x1 (ix3 b h s) : EReal) (val_main_v118 x0 x1 (ix3 b h s))) := by
  rw [val_main_v121_apply, val_main_v120_apply, val_main_v119_apply]
  exact exp_sub _ _

theorem v123_read (b : Fin 16) (h : Fin 8) (s : Fin 2048) : val_main_v123 x0 x1 (ix3 b h s)
    = Ideal.exp ((val_main_v118 x0 x1 (ix3 b h s) : EReal) - max (val_main_v27 x0 x1 (ix3 b h s) : EReal) (val_main_v118 x0 x1 (ix3 b h s))) := by
  rw [val_main_v123_apply, val_main_v122_apply, val_main_v119_apply]
  exact exp_sub _ _

theorem v134_read (b : Fin 16) (h : Fin 8) (s : Fin 2048) (d : Fin 64) : val_main_v134 x0 x1 x2 (ix4 b h s d)
    = Ideal.div ((val_main_v121 x0 x1 (ix3 b h s) : EReal) * (val_main_v28 x0 x1 x2 (ix4 b h s d) : EReal)
        + (val_main_v123 x0 x1 (ix3 b h s) : EReal) * (val_main_v115 x0 x1 x2 (ix4 b h s d) : EReal))
        ((val_main_v121 x0 x1 (ix3 b h s) : EReal) + (val_main_v123 x0 x1 (ix3 b h s) : EReal)) := by
  have e1 : val_main_v125 x0 x1 (ix4 b h s d) = val_main_v121 x0 x1 (ix3 b h s) := by
    unfold val_main_v125 val_main_v124
    generalize val_main_v121 x0 x1 = A
    pointwise
  have e2 : val_main_v128 x0 x1 (ix4 b h s d) = val_main_v123 x0 x1 (ix3 b h s) := by
    unfold val_main_v128 val_main_v127
    generalize val_main_v123 x0 x1 = A
    pointwise
  have e3 : val_main_v133 x0 x1 (ix4 b h s d) = val_main_v131 x0 x1 (ix3 b h s) := by
    unfold val_main_v133 val_main_v132
    generalize val_main_v131 x0 x1 = A
    pointwise
  rw [val_main_v134_apply, val_main_v130_apply, val_main_v126_apply, val_main_v129_apply, e1, e2, e3, val_main_v131_apply]
  exact merge_eq _ _ _ _ _ _

theorem v137_read (h : Fin 8) (d : Fin 64) (b : Fin 16) (s : Fin 2048) (R : Fin 512) (C : Fin 32768) (hR : R.val = 64 * h.val + d.val)
    (hC : C.val = 2048 * b.val + s.val) : val_main_v137 x0 x1 x2 (ix2 R C) = val_main_v134 x0 x1 x2 (ix4 b h s d) := by
  unfold val_main_v137 val_main_v136 val_main_v135
  generalize val_main_v134 x0 x1 x2 = A
  pointwise
  have e1 : (⟨C.val / 2048, by omega⟩ : Fin 16) = b := Fin.ext (by show C.val / 2048 = b.val; omega)
  have e2 : (⟨R.val / 64, by omega⟩ : Fin 8) = h := Fin.ext (by show R.val / 64 = h.val; omega)
  have e3 : (⟨C.val % 2048, by omega⟩ : Fin 2048) = s := Fin.ext (by show C.val % 2048 = s.val; omega)
  have e4 : (⟨R.val % 64, by omega⟩ : Fin 64) = d := Fin.ext (by show R.val % 64 = d.val; omega)
  rw [e1, e2, e3, e4]

end Cert.Moba.Ref

end
-- ==== Proof.MobaSoft.lean ====
/- The merge of two partial softmaxes by their log-sum-exps, over the extended reals. -/
module

public import proofs.«01_k».proof.Proof.MobaMath

@[expose] public section

noncomputable section

namespace Cert.Moba

open Idealize.ShloMosaic
open scoped Classical

/-- A nonnegative real multiplies a sum term by term. -/
theorem coe_mul_sum {ι : Type*} (s : Finset ι) (c : ℝ) (hc : 0 ≤ c) (f : ι → EReal) : (c : EReal) * ∑ i ∈ s, f i = ∑ i ∈ s, (c : EReal) * f i := by
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A maximum of values below plus infinity, some of them above minus infinity, is a real. -/
theorem fold_max_real {ι : Type*} (s : Finset ι) (f : ι → EReal) (ht : ∀ i ∈ s, f i ≠ ⊤) (hb : ∃ i ∈ s, f i ≠ ⊥) :
    ∃ m : ℝ, s.fold max ⊥ f = (m : EReal) := by
  have h1 : s.fold max ⊥ f < ⊤ := (Finset.fold_max_lt _).mpr ⟨bot_lt_top, fun i hi => lt_top_iff_ne_top.mpr (ht i hi)⟩
  obtain ⟨i, hi, hb⟩ := hb
  have h2 : ⊥ < s.fold max ⊥ f := (Finset.lt_fold_max _).mpr (Or.inr ⟨i, hi, bot_lt_iff_ne_bot.mpr hb⟩)
  exact ⟨_, (EReal.coe_toReal h1.ne h2.ne').symm⟩

theorem fold_max_ne_top {ι : Type*} (s : Finset ι) (f : ι → EReal) (ht : ∀ i ∈ s, f i ≠ ⊤) : s.fold max ⊥ f ≠ ⊤ :=
  ((Finset.fold_max_lt _).mpr ⟨bot_lt_top, fun i hi => lt_top_iff_ne_top.mpr (ht i hi)⟩ : s.fold max ⊥ f < ⊤).ne

/-- A weight shifted by the maximum. -/
theorem exp_shift (x m : ℝ) : Ideal.exp ((x : EReal) - (m : EReal)) = ((Real.exp x * Real.exp (-m) : ℝ) : EReal) := by
  rw [← EReal.coe_sub, Ideal.exp_coe, ← Real.exp_add, sub_eq_add_neg]

theorem exp_bot_shift (m : ℝ) : Ideal.exp ((⊥ : EReal) - (m : EReal)) = 0 := by
  rw [EReal.bot_sub]
  rfl

/-- The log-sum-exp does not depend on the shift. -/
theorem lse_shift (L m : ℝ) : (m : EReal) + Ideal.log ((L * Real.exp (-m) : ℝ) : EReal) = Ideal.log (L : EReal) := by
  rw [Ideal.log_coe, Ideal.log_coe]
  have e := Real.exp_pos (-m)
  by_cases h : L ≤ 0
  · rw [if_pos (mul_nonpos_of_nonpos_of_nonneg h e.le), if_pos h, EReal.add_bot]
  · rw [not_le] at h
    rw [if_neg (not_le.mpr (mul_pos h e)), if_neg (not_le.mpr h), Real.log_mul h.ne' e.ne', Real.log_exp, ← EReal.coe_add]
    congr 1
    ring

theorem exp_lse (L M : ℝ) (hL : 0 ≤ L) : Ideal.exp (Ideal.log (L : EReal) - (M : EReal)) = ((L * Real.exp (-M) : ℝ) : EReal) := by
  rw [Ideal.log_coe]
  by_cases h : L ≤ 0
  · rw [if_pos h, exp_bot_shift, le_antisymm h hL, zero_mul]; rfl
  · rw [not_le] at h
    rw [if_neg (not_le.mpr h), exp_shift, Real.exp_log h]

theorem max_lse (Ls Lp : ℝ) (hs : 0 < Ls) : ∃ M : ℝ, max (Ideal.log (Ls : EReal)) (Ideal.log (Lp : EReal)) = (M : EReal) := by
  rw [Ideal.log_coe, Ideal.log_coe, if_neg (not_le.mpr hs)]
  by_cases h : Lp ≤ 0
  · rw [if_pos h, max_eq_left bot_le]; exact ⟨_, rfl⟩
  · rw [if_neg h]
    exact ⟨_, (EReal.coe_strictMono.monotone.map_max).symm⟩

/-- A partial softmax times its share of the total: the shifts cancel. -/
theorem part {ι : Type*} (s : Finset ι) (w : ι → ℝ) (hw : ∀ i, 0 ≤ w i) (V : ι → EReal) (c a : ℝ) (hc : 0 < c) (ha : 0 ≤ a) :
    (((∑ i ∈ s, w i) * a : ℝ) : EReal) * Ideal.div (∑ i ∈ s, ((w i * c : ℝ) : EReal) * V i)
        (if (0 : EReal) < (((∑ i ∈ s, w i) * c : ℝ) : EReal) then (((∑ i ∈ s, w i) * c : ℝ) : EReal) else 1)
      = (a : EReal) * ∑ i ∈ s, ((w i : ℝ) : EReal) * V i := by
  rcases (Finset.sum_nonneg fun i (_ : i ∈ s) => hw i).eq_or_lt with h0 | hpos
  · have z : ∀ i ∈ s, w i = 0 := (Finset.sum_eq_zero_iff_of_nonneg fun i _ => hw i).mp h0.symm
    rw [← h0, zero_mul, EReal.coe_zero, zero_mul, Finset.sum_eq_zero fun i hi => by rw [z i hi, EReal.coe_zero, zero_mul], mul_zero]
  · have e : ∑ i ∈ s, ((w i * c : ℝ) : EReal) * V i = (c : EReal) * ∑ i ∈ s, ((w i : ℝ) : EReal) * V i := by
      rw [coe_mul_sum s c hc.le]
      refine Finset.sum_congr rfl fun i _ => ?_
      rw [mul_comm (w i), EReal.coe_mul, mul_assoc]
    rw [if_pos (EReal.coe_pos.mpr (mul_pos hpos hc)), Ideal.div_coe (mul_pos hpos hc).ne', e]
    generalize ∑ i ∈ s, ((w i : ℝ) : EReal) * V i = X
    generalize ∑ i ∈ s, w i = L at hpos
    rw [mul_comm ((c : EReal) * X), ← mul_assoc, ← mul_assoc, ← EReal.coe_mul, ← EReal.coe_mul]
    congr 2
    field_simp

theorem part_pos {ι : Type*} (s : Finset ι) (w : ι → ℝ) (hw : ∀ i, 0 ≤ w i) (V : ι → EReal) (c a : ℝ) (hc : 0 < c) (ha : 0 ≤ a)
    (hL : 0 < ∑ i ∈ s, w i) :
    (((∑ i ∈ s, w i) * a : ℝ) : EReal) * Ideal.div (∑ i ∈ s, ((w i * c : ℝ) : EReal) * V i) (((∑ i ∈ s, w i) * c : ℝ) : EReal)
      = (a : EReal) * ∑ i ∈ s, ((w i : ℝ) : EReal) * V i := by
  have := part s w hw V c a hc ha
  rwa [if_pos (EReal.coe_pos.mpr (mul_pos hL hc))] at this

/-- The two parts over the two shares. -/
theorem combine (A B : EReal) (Ls Lp a : ℝ) (ha : 0 < a) (hs : 0 < Ls) (hp : 0 ≤ Lp) :
    Ideal.div ((a : EReal) * A + (a : EReal) * B) (((Ls * a : ℝ) : EReal) + ((Lp * a : ℝ) : EReal)) = Ideal.div (A + B) ((Ls + Lp : ℝ) : EReal) := by
  have h1 : 0 < Ls + Lp := by linarith
  have h2 : Ls * a + Lp * a ≠ 0 := by rw [← add_mul]; exact (mul_pos h1 ha).ne'
  rw [← EReal.left_distrib_of_nonneg_of_ne_top (EReal.coe_nonneg.mpr ha.le) (EReal.coe_ne_top a), ← EReal.coe_add, Ideal.div_coe h2, Ideal.div_coe h1.ne',
    mul_comm (a : EReal), mul_assoc, ← EReal.coe_mul]
  congr 2
  rw [← add_mul]
  field_simp

end Cert.Moba

end
-- ==== Proof.MobaRef.lean ====
/- The reference attention computes the attention over the keys allowed, for finite queries and keys. -/
module

public import proofs.«01_k».proof.Proof.MobaRead2
public import proofs.«01_k».proof.Proof.MobaSoft

@[expose] public section

noncomputable section

namespace Cert.Moba.Ref

open Idealize.ShloMosaic Cert.ReferenceIdeal Cert.ReferenceIdeal.Read Cert.ReferenceIdeal.Gen
open scoped Classical

/-- A sum over the positions, block by block. -/
theorem sum_pos {M : Type*} [AddCommMonoid M] (f : Fin 2048 → M) : ∑ t, f t = ∑ j : Fin 8, ∑ r : Fin 256, f (pos j r) := by
  rw [← Fintype.sum_prod_type' fun j r => f (pos j r)]
  refine ((Equiv.sum_comp (finProdFinEquiv : Fin 8 × Fin 256 ≃ Fin (8 * 256)) f).symm).trans (Finset.sum_congr rfl fun p _ => ?_)
  congr 1
  exact Fin.ext (by show p.2.val + 256 * p.1.val = p.1.val * 256 + p.2.val; omega)

theorem kmean_pos (K : Fin 2048 → Fin 64 → ℝ) (j : Fin 8) (d : Fin 64) : kmean K j d = (∑ r, K (pos j r) d) / 256 := by
  unfold kmean
  congr 1
  rw [sum_pos, Finset.sum_eq_single j]
  · exact Finset.sum_congr rfl fun r _ => if_pos (blk_pos j r)
  · intro i _ hi
    exact Finset.sum_eq_zero fun r _ => if_neg (by rw [blk_pos]; exact hi)
  · exact fun h => absurd (Finset.mem_univ j) h

section

variable (x0 x1 x2 : (⟨S16x2048x8x64, .f32⟩ : BufTy).Contents (Elt Ideal)) (b : Fin 16) (h : Fin 8) (Q K : Fin 2048 → Fin 64 → ℝ)
  (hQ : ∀ s d, x0 (ix4 b s h d) = ((Q s d : ℝ) : EReal)) (hK : ∀ t d, x1 (ix4 b t h d) = ((K t d : ℝ) : EReal))

include hQ hK

theorem dot_real (s t : Fin 2048) : ∑ d, (x0 (ix4 b s h d) : EReal) * (x1 (ix4 b t h d) : EReal) = ((score Q K s t : ℝ) : EReal) := by
  unfold score
  rw [coe_sum]
  exact Finset.sum_congr rfl fun d _ => by rw [hQ, hK, EReal.coe_mul]

theorem scaled (s t : Fin 2048) : (∑ d, (x0 (ix4 b s h d) : EReal) * (x1 (ix4 b t h d) : EReal)) * ((1 / 8 : ℝ) : EReal)
    = ((score Q K s t / 8 : ℝ) : EReal) := by
  rw [dot_real x0 x1 b h Q K hQ hK, ← EReal.coe_mul]
  congr 1
  ring

theorem v39_eq (s : Fin 2048) (j : Fin 8) : val_main_v39 x0 x1 (ix4 b h s j) = gate Q K s j := by
  rw [v39_read]
  unfold gate
  refine if_congr Iff.rfl ?_ rfl
  rw [v32_read, coe_sum]
  refine Finset.sum_congr rfl fun d _ => ?_
  have e : ∑ r, (x1 (ix4 b (pos j r) h d) : EReal) = ((∑ r, K (pos j r) d : ℝ) : EReal) := by
    rw [coe_sum]
    exact Finset.sum_congr rfl fun r _ => hK _ d
  rw [hQ, kmean_pos]
  refine (congrArg (fun z => ((Q s d : ℝ) : EReal) * Ideal.div z ((256 : ℝ) : EReal)) e).trans ?_
  show ((Q s d : ℝ) : EReal) * Ideal.div ((∑ r, K (pos j r) d : ℝ) : EReal) ((256 : ℝ) : EReal) = _
  rw [Ideal.div_coe (by norm_num), ← EReal.coe_mul, ← EReal.coe_mul]
  congr 2
  ring

/-- The order of a query's gates, as the reference compares them. -/
theorem bf_gate (s : Fin 2048) (i j : Fin 8) : bf x0 x1 b h s i j = true ↔ gate Q K s j < gate Q K s i := by
  rw [bf_iff, v39_eq x0 x1 b h Q K hQ hK, v39_eq x0 x1 b h Q K hQ hK]

/-- A weight in a query's own block. -/
def ws (s : Fin 2048) (x : Fin 256) : ℝ := if x ≤ loc s then Real.exp (score Q K s (pos (blk s) x) / 8) else 0

/-- A weight in one of the three blocks that come first. -/
def wp (s : Fin 2048) (p : Fin 3 × Fin 256) : ℝ :=
  if p.1.val < (blk s).val then Real.exp (score Q K s (pos (top x0 x1 b h s p.1) p.2) / 8) else 0

omit hQ hK in
theorem ws_nonneg (s : Fin 2048) (x : Fin 256) : 0 ≤ ws Q K s x := by
  unfold ws
  split
  · exact (Real.exp_pos _).le
  · exact le_rfl

omit hQ hK in
theorem wp_nonneg (s : Fin 2048) (p : Fin 3 × Fin 256) : 0 ≤ wp x0 x1 b h Q K s p := by
  unfold wp
  split
  · exact (Real.exp_pos _).le
  · exact le_rfl

omit hQ hK in
theorem ws_pos (s : Fin 2048) : 0 < ∑ x, ws Q K s x :=
  Finset.sum_pos' (fun x _ => ws_nonneg Q K s x) ⟨loc s, Finset.mem_univ _, by unfold ws; rw [if_pos le_rfl]; exact Real.exp_pos _⟩

theorem v13_eq (s : Fin 2048) (x : Fin 256) : val_main_v13 x0 x1 (ix5 b h (blk s) (loc s) x)
    = if x ≤ loc s then ((score Q K s (pos (blk s) x) / 8 : ℝ) : EReal) else (⊥ : EReal) := by
  rw [v13_read]
  refine if_congr Iff.rfl ?_ rfl
  refine (scaled x0 x1 b h Q K hQ hK _ _).trans ?_
  rw [pos_loc]

theorem v14_real (s : Fin 2048) : ∃ m : ℝ, val_main_v14 x0 x1 (ix4 b h (blk s) (loc s)) = (m : EReal) := by
  rw [v14_read]
  refine fold_max_real _ _ (fun x _ => ?_) ⟨loc s, Finset.mem_univ _, ?_⟩
  · rw [v13_eq x0 x1 b h Q K hQ hK]
    split
    · exact EReal.coe_ne_top _
    · exact bot_ne_top
  · rw [v13_eq x0 x1 b h Q K hQ hK, if_pos le_rfl]
    exact EReal.coe_ne_bot _

theorem v18_eq (s : Fin 2048) (m : ℝ) (hm : val_main_v14 x0 x1 (ix4 b h (blk s) (loc s)) = (m : EReal)) (x : Fin 256) :
    val_main_v18 x0 x1 (ix5 b h (blk s) (loc s) x) = ((ws Q K s x * Real.exp (-m) : ℝ) : EReal) := by
  rw [v18_read, hm, v13_eq x0 x1 b h Q K hQ hK]
  unfold ws
  split
  · exact exp_shift _ _
  · rw [zero_mul]; exact exp_bot_shift m

theorem v98_eq (s : Fin 2048) (n : Fin 3) (x : Fin 256) : val_main_v98 x0 x1 (ix5 b h s n x)
    = if n.val < (blk s).val then ((score Q K s (pos (top x0 x1 b h s n) x) / 8 : ℝ) : EReal) else (⊥ : EReal) := by
  rw [v98_read]
  exact if_congr Iff.rfl (scaled x0 x1 b h Q K hQ hK _ _) rfl

theorem v107_eq (s : Fin 2048) (m : ℝ) (hm : val_main_v104 x0 x1 (ix5 b h s 0 0) = (m : EReal)) (p : Fin 3 × Fin 256) :
    val_main_v107 x0 x1 (ix5 b h s p.1 p.2) = ((wp x0 x1 b h Q K s p * Real.exp (-m) : ℝ) : EReal) := by
  rw [v107_read, hm, v98_eq x0 x1 b h Q K hQ hK]
  unfold wp
  split
  · exact exp_shift _ _
  · rw [zero_mul]; exact exp_bot_shift m

theorem v19_eq (s : Fin 2048) (m : ℝ) (hm : val_main_v14 x0 x1 (ix4 b h (blk s) (loc s)) = (m : EReal)) :
    val_main_v19 x0 x1 (ix4 b h (blk s) (loc s)) = (((∑ x, ws Q K s x) * Real.exp (-m) : ℝ) : EReal) := by
  rw [v19_read, Finset.sum_mul, coe_sum]
  exact Finset.sum_congr rfl fun x _ => v18_eq x0 x1 b h Q K hQ hK s m hm x

theorem v108_eq (s : Fin 2048) (m : ℝ) (hm : val_main_v104 x0 x1 (ix5 b h s 0 0) = (m : EReal)) :
    val_main_v108 x0 x1 (ix3 b h s) = (((∑ p, wp x0 x1 b h Q K s p) * Real.exp (-m) : ℝ) : EReal) := by
  rw [v108_read, Finset.sum_mul, coe_sum]
  exact Finset.sum_congr rfl fun p _ => v107_eq x0 x1 b h Q K hQ hK s m hm p

/-- The own block's part over its share. -/
theorem self_eq (s : Fin 2048) (d : Fin 64) (m M : ℝ) (hm : val_main_v14 x0 x1 (ix4 b h (blk s) (loc s)) = (m : EReal)) :
    (((∑ x, ws Q K s x) * Real.exp (-M) : ℝ) : EReal) * (val_main_v28 x0 x1 x2 (ix4 b h s d) : EReal)
      = ((Real.exp (-M) : ℝ) : EReal) * ∑ x, ((ws Q K s x : ℝ) : EReal) * (x2 (ix4 b (pos (blk s) x) h d) : EReal) := by
  have e : ∑ x : Fin 256, (val_main_v18 x0 x1 (ix5 b h (blk s) (loc s) x) : EReal) * (x2 (ix4 b (pos (blk s) x) h d) : EReal)
      = ∑ x : Fin 256, ((ws Q K s x * Real.exp (-m) : ℝ) : EReal) * (x2 (ix4 b (pos (blk s) x) h d) : EReal) :=
    Finset.sum_congr rfl fun x _ => congrArg (fun z : EReal => z * (x2 (ix4 b (pos (blk s) x) h d) : EReal)) (v18_eq x0 x1 b h Q K hQ hK s m hm x)
  have r : val_main_v28 x0 x1 x2 (ix4 b h s d)
      = Ideal.div (∑ x : Fin 256, ((ws Q K s x * Real.exp (-m) : ℝ) : EReal) * (x2 (ix4 b (pos (blk s) x) h d) : EReal))
          (((∑ x, ws Q K s x) * Real.exp (-m) : ℝ) : EReal) :=
    ((v28_read x0 x1 x2 b h s d).trans (v23_read x0 x1 x2 b h (blk s) (loc s) d)).trans (congrArg₂ Ideal.div e (v19_eq x0 x1 b h Q K hQ hK s m hm))
  rw [r]
  exact part_pos Finset.univ (ws Q K s) (ws_nonneg Q K s) (fun x => (x2 (ix4 b (pos (blk s) x) h d) : EReal)) (Real.exp (-m)) (Real.exp (-M))
    (Real.exp_pos _) (Real.exp_pos _).le (ws_pos Q K s)

/-- The past blocks' part over its share. -/
theorem past_eq (s : Fin 2048) (d : Fin 64) (m M : ℝ) (hm : val_main_v104 x0 x1 (ix5 b h s 0 0) = (m : EReal)) :
    (((∑ p, wp x0 x1 b h Q K s p) * Real.exp (-M) : ℝ) : EReal) * (val_main_v115 x0 x1 x2 (ix4 b h s d) : EReal)
      = ((Real.exp (-M) : ℝ) : EReal) * ∑ p : Fin 3 × Fin 256, ((wp x0 x1 b h Q K s p : ℝ) : EReal)
          * (x2 (ix4 b (pos (top x0 x1 b h s p.1) p.2) h d) : EReal) := by
  have e : ∑ p : Fin 3 × Fin 256, (val_main_v107 x0 x1 (ix5 b h s p.1 p.2) : EReal) * (x2 (ix4 b (pos (top x0 x1 b h s p.1) p.2) h d) : EReal)
      = ∑ p : Fin 3 × Fin 256, ((wp x0 x1 b h Q K s p * Real.exp (-m) : ℝ) : EReal) * (x2 (ix4 b (pos (top x0 x1 b h s p.1) p.2) h d) : EReal) :=
    Finset.sum_congr rfl fun p _ => congrArg (fun z : EReal => z * (x2 (ix4 b (pos (top x0 x1 b h s p.1) p.2) h d) : EReal))
      (v107_eq x0 x1 b h Q K hQ hK s m hm p)
  rw [v115_read, v108_eq x0 x1 b h Q K hQ hK s m hm, e]
  exact part Finset.univ (wp x0 x1 b h Q K s) (wp_nonneg x0 x1 b h Q K s) (fun p => (x2 (ix4 b (pos (top x0 x1 b h s p.1) p.2) h d) : EReal))
    (Real.exp (-m)) (Real.exp (-M)) (Real.exp_pos _) (Real.exp_pos _).le

/-- The merge, as one quotient of the two parts' sums. -/
theorem v134_eq (hx : ∀ i, (val_main_v98 x0 x1 i : EReal) ≠ ⊤) (s : Fin 2048) (d : Fin 64) : val_main_v134 x0 x1 x2 (ix4 b h s d)
    = Ideal.div ((∑ x, ((ws Q K s x : ℝ) : EReal) * (x2 (ix4 b (pos (blk s) x) h d) : EReal))
        + ∑ p : Fin 3 × Fin 256, ((wp x0 x1 b h Q K s p : ℝ) : EReal) * (x2 (ix4 b (pos (top x0 x1 b h s p.1) p.2) h d) : EReal))
        ((∑ x, ws Q K s x + ∑ p, wp x0 x1 b h Q K s p : ℝ) : EReal) := by
  obtain ⟨m, hm⟩ := v14_real x0 x1 b h Q K hQ hK s
  obtain ⟨m', hm'⟩ := v104_real x0 x1 b h s hx
  have e27 : val_main_v27 x0 x1 (ix3 b h s) = Ideal.log ((∑ x, ws Q K s x : ℝ) : EReal) := by
    rw [v27_read, v25_read, hm, v19_eq x0 x1 b h Q K hQ hK s m hm]
    exact lse_shift _ _
  have e118 : val_main_v118 x0 x1 (ix3 b h s) = Ideal.log ((∑ p, wp x0 x1 b h Q K s p : ℝ) : EReal) := by
    rw [v118_read, hm', v108_eq x0 x1 b h Q K hQ hK s m' hm']
    exact lse_shift _ _
  obtain ⟨M, hM⟩ := max_lse (∑ x, ws Q K s x) (∑ p, wp x0 x1 b h Q K s p) (ws_pos Q K s)
  have np : 0 ≤ ∑ p, wp x0 x1 b h Q K s p := Finset.sum_nonneg fun p _ => wp_nonneg x0 x1 b h Q K s p
  have e121 : val_main_v121 x0 x1 (ix3 b h s) = (((∑ x, ws Q K s x) * Real.exp (-M) : ℝ) : EReal) := by
    rw [v121_read, e27, e118, hM]
    exact exp_lse _ _ (ws_pos Q K s).le
  have e123 : val_main_v123 x0 x1 (ix3 b h s) = (((∑ p, wp x0 x1 b h Q K s p) * Real.exp (-M) : ℝ) : EReal) := by
    rw [v123_read, e27, e118, hM]
    exact exp_lse _ _ np
  rw [v134_read, e121, e123, self_eq x0 x1 x2 b h Q K hQ hK s d m M hm, past_eq x0 x1 x2 b h Q K hQ hK s d m' M hm']
  exact combine _ _ _ _ _ (Real.exp_pos _) (ws_pos Q K s) np

/-- The two parts of a sum over the allowed keys. -/
theorem sum_allowed {M : Type*} [AddCommMonoid M] (s : Fin 2048) (F : Fin 2048 → M) :
    (∑ t, if allowed Q K s t then F t else 0)
      = (∑ x, if x ≤ loc s then F (pos (blk s) x) else 0)
        + ∑ p : Fin 3 × Fin 256, if p.1.val < (blk s).val then F (pos (top x0 x1 b h s p.1) p.2) else 0 := by
  have e : ∀ (j : Fin 8) (r : Fin 256), (if allowed Q K s (pos j r) then F (pos j r) else 0)
      = (if j = blk s then (if r ≤ loc s then F (pos (blk s) r) else 0) else 0)
        + if j < blk s ∧ rank (gate Q K s) j < 3 then F (pos j r) else 0 := by
    intro j r
    have a : allowed Q K s (pos j r) ↔ (j = blk s ∧ pos j r ≤ s) ∨ (j < blk s ∧ rank (gate Q K s) j < 3) := by
      unfold allowed
      rw [blk_pos]
    by_cases c : j = blk s
    · have le : pos j r ≤ s ↔ r ≤ loc s := by
        rw [c]
        show s.val / 256 * 256 + r.val ≤ s.val ↔ r.val ≤ s.val % 256
        omega
      have nl : ¬ (j < blk s ∧ rank (gate Q K s) j < 3) := fun z => absurd z.1 (by rw [c]; exact lt_irrefl _)
      rw [if_pos c, if_neg nl, add_zero]
      refine if_congr ?_ (by rw [c]) rfl
      exact ⟨fun z => le.mp ((a.mp z).elim And.right fun w => absurd w nl), fun z => a.mpr (Or.inl ⟨c, le.mpr z⟩)⟩
    · rw [if_neg c, zero_add]
      exact if_congr ⟨fun z => (a.mp z).elim (fun w => absurd w.1 c) id, fun z => a.mpr (Or.inr z)⟩ rfl rfl
  rw [sum_pos, Finset.sum_congr rfl fun j _ => Finset.sum_congr rfl fun r _ => e j r]
  rw [Finset.sum_congr rfl fun j _ => Finset.sum_add_distrib, Finset.sum_add_distrib]
  congr 1
  · rw [Finset.sum_eq_single (blk s)]
    · exact Finset.sum_congr rfl fun r _ => if_pos rfl
    · exact fun j _ hj => Finset.sum_eq_zero fun r _ => if_neg hj
    · exact fun z => absurd (Finset.mem_univ _) z
  · have hlo : ∀ j, ¬ j < blk s → gate Q K s j = ⊥ := fun j hj => by unfold gate; exact if_neg hj
    have hhi : ∀ j, j < blk s → gate Q K s j ≠ ⊥ := fun j hj => by unfold gate; rw [if_pos hj]; exact EReal.coe_ne_bot _
    have t := sum_top (gate Q K s) (bf x0 x1 b h s) (bf_gate x0 x1 b h Q K hQ hK s) (blk s) hlo hhi fun j => ∑ r : Fin 256, F (pos j r)
    rw [Fintype.sum_prod_type]
    refine Eq.trans ?_ (t.symm.trans ?_)
    · refine Finset.sum_congr rfl fun j _ => ?_
      split
      · rfl
      · exact Finset.sum_const_zero
    · refine Finset.sum_congr rfl fun n _ => ?_
      show (if n.val < (blk s).val then _ else _) = ∑ r : Fin 256, if n.val < (blk s).val then F (pos (top x0 x1 b h s n) r) else 0
      split
      · rfl
      · exact Finset.sum_const_zero.symm

/-- The reference's result, at a query and a channel. -/
theorem v134_attn (hx : ∀ i, (val_main_v98 x0 x1 i : EReal) ≠ ⊤) (s : Fin 2048) (d : Fin 64) : val_main_v134 x0 x1 x2 (ix4 b h s d)
    = attn Q K (fun t d => x2 (ix4 b t h d)) s d := by
  rw [v134_eq x0 x1 x2 b h Q K hQ hK hx]
  unfold attn
  have e1 : ∑ t, (x2 (ix4 b t h d) : EReal) * ((wgt Q K s t : ℝ) : EReal)
      = ∑ t, if allowed Q K s t then ((Real.exp (score Q K s t / 8) : ℝ) : EReal) * (x2 (ix4 b t h d) : EReal) else 0 := by
    refine Finset.sum_congr rfl fun t _ => ?_
    unfold wgt
    split
    · exact mul_comm _ _
    · rw [EReal.coe_zero, mul_zero]
  have e2 : ∑ t, wgt Q K s t = ∑ t, if allowed Q K s t then Real.exp (score Q K s t / 8) else 0 := rfl
  refine (congrArg₂ Ideal.div ?_ (congrArg _ ?_))
  · refine Eq.trans ?_ (e1.trans (sum_allowed x0 x1 b h Q K hQ hK s _)).symm
    refine congrArg₂ (· + ·) (Finset.sum_congr rfl fun x _ => ?_) (Finset.sum_congr rfl fun p _ => ?_)
    · unfold ws
      split
      · rfl
      · rw [EReal.coe_zero, zero_mul]
    · unfold wp
      split
      · rfl
      · rw [EReal.coe_zero, zero_mul]
  · exact (e2.trans (sum_allowed x0 x1 b h Q K hQ hK s _)).symm

end

end Cert.Moba.Ref

end
-- ==== Proof.MobaPre.lean ====
/- The precondition read back: every query and every key is a real number. -/
module

public import proofs.«01_k».proof.Proof.MobaRef
public import proofs.«01_k».proof.Defs
public import Idealize.ShloMosaic.Lib.ReduceAll

@[expose] public section

noncomputable section

namespace Cert.Moba

open Idealize.ShloMosaic

/-- The side conditions of the precondition's operations. -/
instance pre_facts : Cert.Pre_finite_qk.Facts where
  bcast_S_S16x2048x8x64 := by decide
  reducesTo_S16x2048x8x64_S_d0_1_2_3 := by decide
  h_S_ := by decide

/-- A value whose absolute value is below infinity is a real number. -/
theorem real_of_word (x : EReal) (h : BitVec.ofBool (decide (max x (-x) < (⊤ : EReal))) = 1#1) : ∃ r : ℝ, x = r := by
  have h' : max x (-x) < ⊤ := by
    by_contra hc
    rw [decide_eq_false hc] at h
    exact absurd h (by decide)
  induction x with
  | bot => simp at h'
  | top => simp at h'
  | coe r => exact ⟨r, rfl⟩

instance : Subsingleton Cert.Pre_finite_qk.S_.Idx := ⟨fun a b => funext fun i => i.elim0⟩

theorem real_of_all [Cert.Pre_finite_qk.Facts] (x y z : FVec Ideal Cert.Pre_finite_qk.S16x2048x8x64 .f32)
    (h : Cert.Pre_finite_qk.fn (F := Ideal) x y z = fun _ => 1#1) :
    (∀ i, ∃ r : ℝ, (x i : EReal) = r) ∧ ∀ i, ∃ r : ℝ, (y i : EReal) = r := by
  have h0 := congrFun h (fun i => i.elim0)
  dsimp only [Cert.Pre_finite_qk.fn] at h0
  obtain ⟨ha, hb⟩ := (show ∀ a b : BitVec 1, IntOp.andi a b = 1#1 → a = 1#1 ∧ b = 1#1 from by decide) _ _ h0
  refine ⟨fun i => real_of_word _ ?_, fun i => real_of_word _ ?_⟩
  · rw [← Ref.top_word]
    exact Host.reduce_andi_all _ _ _ _ _ ha i
  · rw [← Ref.top_word]
    exact Host.reduce_andi_all _ _ _ _ _ hb i

end Cert.Moba

end
-- ==== Proof.MobaUnit.lean ====
/- One unit of the attention kernel: the output of one block of queries of one head, as one function of the key blocks, the
   query columns and the value rows. -/
module

public import proofs.«01_k».proof.Proof.Gen.KernelIdeal.Value
public import Idealize.ShloMosaic.Lib.Pointwise
public import Idealize.ShloMosaic.Lib.WordCmp

@[expose] public section

noncomputable section

namespace Cert.Moba

open Idealize.ShloMosaic Idealize.SL.Sem Cert.KernelIdeal Cert.KernelIdeal.Gen

/-- A block of 256 columns fits into the 2048 columns of the values. -/
theorem fitsV (j : ℕ) : S80x2048.Slices ![0, 256 * (j % 8)] S80x256 :=
  ⟨rfl, fun a => match a with
    | ⟨0, _⟩ => by show 0 + 80 ≤ 80; omega
    | ⟨1, _⟩ => by show 256 * (j % 8) + 256 ≤ 2048; omega⟩

/-- A block of 256 columns fits into the 2048 columns of the queries. -/
theorem fitsQ (i : ℕ) : S256x2048.Slices ![0, 256 * (i % 8)] S256x256 :=
  ⟨rfl, fun a => match a with
    | ⟨0, _⟩ => by show 0 + 256 ≤ 256; omega
    | ⟨1, _⟩ => by show 256 * (i % 8) + 256 ≤ 2048; omega⟩

variable (qw : FVec Ideal S256x2048 .bf16) (va : FVec Ideal S80x2048 .bf16) (kx : ℕ → FVec Ideal S256x256 .bf16)

/-- The scores of key block `j` against query block `i`. -/
def sb (i j : ℕ) : FVec Ideal S256x256 .f32 :=
  matmul dot_S256x256_S256x256_S256x256_1_0_0_1_n_n none (kx j) (extractStridedSlice S256x256 ![0, 256 * (i % 8)] qw (fitsQ i))
    (constant S256x256 .f32 0x00000000#32)

/-- The weights of a block of the past. -/
def prob (s : FVec Ideal S256x256 .f32) : FVec Ideal S256x256 .bf16 := truncf .bf16 (exp2 s) bitsLt_bf16_f32

/-- The weights of the queries' own block, masked. -/
def probD (s : FVec Ideal S256x256 .f32) : FVec Ideal S256x256 .bf16 :=
  truncf .bf16 (exp2 (select (cmpi .sle (iota .tc S256x256 32 [0] iota_S256x256_d0_w32) (iota .tc S256x256 32 [1] iota_S256x256_d1_w32)) s
    (broadcast S256x256 (Named.named κ "mask" 0xF149F2CA#32 : Ideal .f32)))) bitsLt_bf16_f32

/-- The values of block `j` weighted. -/
def pt (j : ℕ) (p : FVec Ideal S256x256 .bf16) : FVec Ideal S80x256 .f32 :=
  matmul dot_S80x256_S256x256_S80x256_1_0_0_1_n_n none (extractStridedSlice S80x256 ![0, 256 * (j % 8)] va (fitsV j)) p
    (constant S80x256 .f32 0x00000000#32)

/-- The blocks `0 … n` of the past of query block `i`, summed from the left. -/
def before (i : ℕ) : ℕ → FVec Ideal S80x256 .f32
  | 0 => pt va 0 (prob (sb qw kx i 0))
  | n + 1 => addf (before i n) (pt va (n + 1) (prob (sb qw kx i (n + 1))))

/-- All the blocks of query block `i`. -/
def acc : ℕ → FVec Ideal S80x256 .f32
  | 0 => pt va 0 (probD (sb qw kx 0 0))
  | n + 1 => addf (before qw va kx (n + 1) n) (pt va (n + 1) (probD (sb qw kx (n + 1) (n + 1))))

/-- The weighted values over the sum of the weights, which the row of ones holds. -/
def fin (a : FVec Ideal S80x256 .f32) : FVec Ideal S64x256 .bf16 :=
  truncf .bf16 (divf (extractStridedSlice S64x256 ![0, 0] a slices_S80x256_o0_0_S64x256)
    (broadcastTo S64x256 (extractStridedSlice S1x256 ![64, 0] a slices_S80x256_o64_0_S1x256) broadcasts_S1x256_S64x256)) bitsLt_bf16_f32

/-- The unit. -/
def unit (i : ℕ) : FVec Ideal S64x256 .bf16 := fin (acc qw va kx i)

/-- A column of the 2048. -/
def col (j : ℕ) (r : Fin 256) : Fin 2048 := ⟨256 * (j % 8) + r.val, by omega⟩

/-- A score. -/
def sc (i j : ℕ) (r s : Fin 256) : EReal := ∑ l : Fin 256, kx j (ix2 r l) * qw (ix2 l (col i s))

theorem sb_apply (i j : ℕ) (r s : Fin 256) : sb qw kx i j (ix2 r s) = sc qw kx i j r s := by
  unfold sb sc
  pointwise
  rfl

theorem pt_apply (j : ℕ) (p : FVec Ideal S256x256 .bf16) (d : Fin 80) (s : Fin 256) :
    pt va j p (ix2 d s) = ∑ r : Fin 256, va (ix2 d (col j r)) * p (ix2 r s) := by
  unfold pt
  pointwise
  rfl

/-- A number below `2^31` as a signed word. -/
theorem sle_iff (r s : Fin 256) : IntOp.cmpi .sle (BitVec.ofNat 32 r.val) (BitVec.ofNat 32 s.val) = 1#1 ↔ r.val ≤ s.val := by
  rw [Idealize.ShloMosaic.WordCmp.cmpi_sle_ofNat (by omega) (by omega)]
  by_cases h : r.val ≤ s.val <;> simp [h]

theorem mask_eq : (Named.named κ "mask" 0xF149F2CA#32 : Ideal .f32) = (⊥ : EReal) :=
  IdealRules.named_const.ideal_named_scalar _ _ _ _ rfl

theorem probD_apply (x : FVec Ideal S256x256 .f32) (r s : Fin 256) :
    probD x (ix2 r s) = Ideal.exp2 (if r.val ≤ s.val then x (ix2 r s) else ⊥) := by
  unfold probD
  pointwise
  rw [mask_eq]
  show Ideal.exp2 _ = _
  congr 1
  unfold Scalar.select
  exact if_congr (sle_iff r s) rfl rfl

theorem prob_apply (x : FVec Ideal S256x256 .f32) (r s : Fin 256) : prob x (ix2 r s) = Ideal.exp2 (x (ix2 r s)) := by
  unfold prob
  pointwise
  rfl

/-- The weight of key `r` of block `j` for query `s` of block `i`. -/
def wt (i j : ℕ) (r s : Fin 256) : EReal := Ideal.exp2 (if j < i ∨ r.val ≤ s.val then sc qw kx i j r s else ⊥)

theorem before_apply (i n : ℕ) (hn : n < i) (d : Fin 80) (s : Fin 256) :
    before qw va kx i n (ix2 d s) = ∑ j ∈ Finset.range (n + 1), ∑ r : Fin 256, va (ix2 d (col j r)) * wt qw kx i j r s := by
  induction n with
  | zero =>
    rw [Finset.sum_range_one]
    show pt va 0 _ _ = _
    rw [pt_apply]
    refine Finset.sum_congr rfl fun r _ => ?_
    rw [prob_apply, sb_apply, wt, if_pos (Or.inl hn)]
  | succ n ih =>
    rw [Finset.sum_range_succ, ← ih (by omega)]
    show before qw va kx i n (ix2 d s) + pt va (n + 1) _ (ix2 d s) = _
    rw [pt_apply]
    congr 1
    refine Finset.sum_congr rfl fun r _ => ?_
    rw [prob_apply, sb_apply, wt, if_pos (Or.inl hn)]

theorem acc_apply (i : ℕ) (d : Fin 80) (s : Fin 256) :
    acc qw va kx i (ix2 d s) = ∑ j ∈ Finset.range (i + 1), ∑ r : Fin 256, va (ix2 d (col j r)) * wt qw kx i j r s := by
  have last : pt va i (probD (sb qw kx i i)) (ix2 d s) = ∑ r : Fin 256, va (ix2 d (col i r)) * wt qw kx i i r s := by
    rw [pt_apply]
    refine Finset.sum_congr rfl fun r _ => ?_
    rw [probD_apply, sb_apply, wt]
    congr 2
    simp only [lt_irrefl, false_or]
  cases i with
  | zero => rw [Finset.sum_range_one]; exact last
  | succ n =>
    rw [Finset.sum_range_succ, ← before_apply qw va kx (n + 1) n (by omega)]
    show before qw va kx (n + 1) n (ix2 d s) + pt va (n + 1) _ (ix2 d s) = _
    rw [last]

/-- A unit at an index. -/
theorem unit_apply (i : ℕ) (d : Fin 64) (s : Fin 256) :
    unit qw va kx i (ix2 d s) = Ideal.div
      (∑ j ∈ Finset.range (i + 1), ∑ r : Fin 256, va (ix2 ⟨d.val, by omega⟩ (col j r)) * wt qw kx i j r s)
      (∑ j ∈ Finset.range (i + 1), ∑ r : Fin 256, va (ix2 ⟨64, by omega⟩ (col j r)) * wt qw kx i j r s) := by
  rw [← acc_apply, ← acc_apply]
  unfold unit fin
  pointwise

end Cert.Moba

end
-- ==== Proof.MobaPieces.lean ====
/- What the attention kernel stores: sixteen units, over the blocks that the point reads. -/
module

public import proofs.«01_k».proof.Proof.MobaUnit
public import Idealize.ShloMosaic.Lib.Pipeline.ValueKit.Tiles
import all proofs.«01_k».proof.Proof.Gen.KernelIdeal.Frame.RunA
import all proofs.«01_k».proof.Proof.Gen.KernelIdeal.Frame.RunB

@[expose] public section

noncomputable section

namespace Cert.Moba

open Idealize.ShloMosaic Idealize.SL.Sem Cert.KernelIdeal Cert.KernelIdeal.Gen

/-- The number of each of the eight rows. -/
def rowI : IVec S8x2048 32 := iota .tc S8x2048 32 [0] iota_S8x2048_d0_w32

/-- The means of the key blocks, three parts and a zero one. -/
def km (k : FVec Ideal S2048x128 .bf16) : FVec Ideal S32x128 .bf16 := k0_pay5 k0_pay4 k

/-- The first head's queries over their bias rows. -/
def qw0 (k : FVec Ideal S2048x128 .bf16) (q : FVec Ideal S64x2048 .f32) : FVec Ideal S256x2048 .bf16 :=
  k0_pay17 k0_pay8 (k0_pay12 k0_pay7 q) (k0_pay13 rowI k0_pay6)
    (k0_pay16 rowI (k0_pay14 (km k) rowI k0_pay6 k0_pay7 q) (k0_pay15 (km k) rowI k0_pay6 k0_pay7 q))

/-- The second head's queries over their bias rows. -/
def qw1 (k : FVec Ideal S2048x128 .bf16) (q : FVec Ideal S64x2048 .f32) : FVec Ideal S256x2048 .bf16 :=
  k0_pay26 k0_pay8 (k0_pay18 k0_pay7 q) (k0_pay19 rowI k0_pay6)
    (k0_pay24 rowI (k0_pay20 (km k) rowI k0_pay6 k0_pay7 q) (k0_pay21 (km k) rowI k0_pay6 k0_pay7 q)
      (k0_pay22 (km k) rowI k0_pay6 k0_pay7 q) (k0_pay23 (km k) rowI k0_pay6 k0_pay7 q)) k0_pay25

/-- The queries of head `h` of the two. -/
def qwOf (h : ℕ) (k : FVec Ideal S2048x128 .bf16) (q : ℕ → FVec Ideal S64x2048 .f32) : FVec Ideal S256x2048 .bf16 :=
  match h with
  | 0 => qw0 k (q 0)
  | _ + 1 => qw1 k (q 1)

/-- The values of head `h` of the two, over rows of ones. -/
def vaOf (h : ℕ) (v : ℕ → FVec Ideal S64x2048 .bf16) : FVec Ideal S80x2048 .bf16 :=
  match h with
  | 0 => k0_pay10 (v 0)
  | _ + 1 => k0_pay11 (v 1)

/-- What the point leaves at row `y0` and column `y1` of its output block. -/
def outAt (k : FVec Ideal S2048x128 .bf16) (q : ℕ → FVec Ideal S64x2048 .f32) (v : ℕ → FVec Ideal S64x2048 .bf16)
    (kx : ℕ → FVec Ideal S256x256 .bf16) (y : S128x2048.Idx) : Ideal .bf16 :=
  unit (qwOf ((y 0).val / 64) k q) (vaOf ((y 0).val / 64) v) kx ((y 1).val / 256)
    (ix2 ⟨(y 0).val % 64, Nat.mod_lt _ (by omega)⟩ ⟨(y 1).val % 256, Nat.mod_lt _ (by omega)⟩)

theorem tile (k : FVec Ideal S2048x128 .bf16) (q : ℕ → FVec Ideal S64x2048 .f32) (v : ℕ → FVec Ideal S64x2048 .bf16)
    (kx : ℕ → FVec Ideal S256x256 .bf16) (y : S128x2048.Idx) (h i o0 o1 : ℕ) (e0 : o0 = 64 * h) (e1 : o1 = 256 * i) :
    View.TileAt (Val := Elt Ideal) (e := .bf16) (S := S128x2048) y ![o0, o1] ![64, 256] (unit (qwOf h k q) (vaOf h v) kx i) (outAt k q v kx y) := by
  intro x hx
  have h0 : (y 0).val = o0 + (x 0).val := hx 0
  have h1 : (y 1).val = o1 + (x 1).val := hx 1
  have b0 : (x 0).val < 64 := (x 0).isLt
  have b1 : (x 1).val < 256 := (x 1).isLt
  subst e0 e1
  have r0 : (y 0).val / 64 = h := by omega
  have r1 : (y 1).val / 256 = i := by omega
  unfold outAt
  rw [r0, r1]
  congr 1
  funext a
  apply Fin.ext
  match a with
  | ⟨0, _⟩ => show (x 0).val = (y 0).val % 64; omega
  | ⟨1, _⟩ => show (x 1).val = (y 1).val % 256; omega

theorem fitsK (j : ℕ) : ∀ a : Fin 2, (![256 * (j % 8), 0] : Fin 2 → ℕ) a + S256x256.size a ≤ S2048x256.size a :=
  fun a => match a with
    | ⟨0, _⟩ => by show 256 * (j % 8) + 256 ≤ 2048; omega
    | ⟨1, _⟩ => by show 0 + 256 ≤ 256; omega

theorem fitsH (h : ℕ) : ∀ a : Fin 2, (![64 * (h % 2), 0] : Fin 2 → ℕ) a + S64x2048.size a ≤ S128x2048.size a :=
  fun a => match a with
    | ⟨0, _⟩ => by show 64 * (h % 2) + 64 ≤ 128; omega
    | ⟨1, _⟩ => by show 0 + 2048 ≤ 2048; omega

section
variable (c : Dev nD) (i : grid0.Coords) (arg2 : Memref sig .tc .vmem S128x2048 .f32) (harg2 : arg2.IsWhole) (arg3 : Memref sig .tc .vmem S2048x128 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S2048x256 .bf16) (harg6 : arg6.IsWhole)
    (x0 : Vec Ideal S128x2048 .f32) (x1 : Vec Ideal S2048x128 .bf16) (x2 : Vec Ideal S128x2048 .bf16) (xs0 : Vec Ideal S2048x256 .bf16)

/-- The keys as the body reads them. -/
def ldK : FVec Ideal S2048x128 .bf16 :=
  View.readAt (Elt Ideal) arg3.view (Rect.unit ![0, 0] S2048x128.size inb_S2048x128_S2048x128_0_0).toLoadRect (harg3.unread x1)

/-- A head's queries as the body reads them. -/
def ldQ (h : ℕ) : FVec Ideal S64x2048 .f32 :=
  View.readAt (Elt Ideal) arg2.view (Rect.unit (s := S128x2048) ![64 * (h % 2), 0] S64x2048.size (fitsH h)).toLoadRect (harg2.unread x0)

/-- A head's values as the body reads them. -/
def ldV (h : ℕ) : FVec Ideal S64x2048 .bf16 :=
  View.readAt (Elt Ideal) arg4.view (Rect.unit (s := S128x2048) ![64 * (h % 2), 0] S64x2048.size (fitsH h)).toLoadRect (harg4.unread x2)

/-- A block of extended keys, where the block numbers were there before. -/
def ldB (j : ℕ) : FVec Ideal S256x256 .bf16 :=
  View.readAt (Elt Ideal) arg6.view (Rect.unit (s := S2048x256) ![256 * (j % 8), 0] S256x256.size (fitsK j)).toLoadRect
    (arg6.view.writes (Elt Ideal) (harg6.unread xs0) [⟨Rect.unit ![0, 0] S2048x128.size inb_S2048x256_S2048x128_0_0, k0_pay2 (F := Ideal) (ldK arg3 harg3 x1)⟩])

/-- The block numbers as the first point stores them, over the keys. -/
def storedA : List (View.Piece (Elt Ideal) S2048x256 .bf16) :=
  [⟨Rect.unit ![0, 128] S2048x128.size inb_S2048x256_S2048x128_0_128, k0_pay3 (F := Ideal)⟩,
    ⟨Rect.unit ![0, 0] S2048x128.size inb_S2048x256_S2048x128_0_0, k0_pay2 (F := Ideal) (ldK arg3 harg3 x1)⟩]

/-- A block of extended keys, at the first point. -/
def ldA (j : ℕ) : FVec Ideal S256x256 .bf16 :=
  arg6.view.readCov (storedA arg3 harg3 x1) (Rect.unit (s := S2048x256) ![256 * (j % 8), 0] S256x256.size (fitsK j)).toLoadRect

theorem outB (hc0 : ¬cond0_0 i) (y : S128x2048.Idx) :
    out0_B_3 c i arg2 harg2 arg3 harg3 arg4 harg4 arg5 harg5 arg6 harg6 hc0 x0 x1 x2 xs0 y
      = outAt (ldK arg3 harg3 x1) (ldQ arg2 harg2 x0) (ldV arg4 harg4 x2) (ldB arg3 harg3 arg6 harg6 x1 xs0) y := by
  unfold out0_B_3
  rw [View.read_writes_eq_canon _ _ _ (cover0_B_3 c i arg2 harg2 arg3 harg3 arg4 harg4 arg5 harg5 arg6 harg6 hc0 x0 x1 x2 xs0)]
  refine View.canon_eq_of_allAt _ _ _ (cover0_B_3 c i arg2 harg2 arg3 harg3 arg4 harg4 arg5 harg5 arg6 harg6 hc0 x0 x1 x2 xs0 y) ?_
  unfold kernelRun0_B
  dsimp only
  have T := tile (ldK arg3 harg3 x1) (ldQ arg2 harg2 x0) (ldV arg4 harg4 x2) (ldB arg3 harg3 arg6 harg6 x1 xs0) y
  refine View.allAt_cons_unit _ _ _ _ _ (by exact T 1 0 64 0 rfl rfl) ?_
  refine View.allAt_cons_unit _ _ _ _ _ (by exact T 1 1 64 256 rfl rfl) ?_
  refine View.allAt_cons_unit _ _ _ _ _ (by exact T 1 2 64 512 rfl rfl) ?_
  refine View.allAt_cons_unit _ _ _ _ _ (by exact T 1 3 64 768 rfl rfl) ?_
  refine View.allAt_cons_unit _ _ _ _ _ (by exact T 1 4 64 1024 rfl rfl) ?_
  refine View.allAt_cons_unit _ _ _ _ _ (by exact T 1 5 64 1280 rfl rfl) ?_
  refine View.allAt_cons_unit _ _ _ _ _ (by exact T 1 6 64 1536 rfl rfl) ?_
  refine View.allAt_cons_unit _ _ _ _ _ (by exact T 1 7 64 1792 rfl rfl) ?_
  refine View.allAt_cons_unit _ _ _ _ _ (by exact T 0 7 0 1792 rfl rfl) ?_
  refine View.allAt_cons_unit _ _ _ _ _ (by exact T 0 6 0 1536 rfl rfl) ?_
  refine View.allAt_cons_unit _ _ _ _ _ (by exact T 0 5 0 1280 rfl rfl) ?_
  refine View.allAt_cons_unit _ _ _ _ _ (by exact T 0 4 0 1024 rfl rfl) ?_
  refine View.allAt_cons_unit _ _ _ _ _ (by exact T 0 3 0 768 rfl rfl) ?_
  refine View.allAt_cons_unit _ _ _ _ _ (by exact T 0 2 0 512 rfl rfl) ?_
  refine View.allAt_cons_unit _ _ _ _ _ (by exact T 0 1 0 256 rfl rfl) ?_
  refine View.allAt_cons_unit _ _ _ _ _ (by exact T 0 0 0 0 rfl rfl) ?_
  exact View.allAt_nil _ _
theorem outA (hc0 : cond0_0 i) (y : S128x2048.Idx) :
    out0_A_3 c i arg2 harg2 arg3 harg3 arg4 harg4 arg5 harg5 arg6 harg6 hc0 x0 x1 x2 y
      = outAt (ldK arg3 harg3 x1) (ldQ arg2 harg2 x0) (ldV arg4 harg4 x2) (ldA arg3 harg3 arg6 x1) y := by
  unfold out0_A_3
  rw [View.read_writes_eq_canon _ _ _ (cover0_A_3 c i arg2 harg2 arg3 harg3 arg4 harg4 arg5 harg5 arg6 harg6 hc0 x0 x1 x2)]
  refine View.canon_eq_of_allAt _ _ _ (cover0_A_3 c i arg2 harg2 arg3 harg3 arg4 harg4 arg5 harg5 arg6 harg6 hc0 x0 x1 x2 y) ?_
  unfold kernelRun0_A
  dsimp only
  have T := tile (ldK arg3 harg3 x1) (ldQ arg2 harg2 x0) (ldV arg4 harg4 x2) (ldA arg3 harg3 arg6 x1) y
  refine View.allAt_cons_unit _ _ _ _ _ (by exact T 1 0 64 0 rfl rfl) ?_
  refine View.allAt_cons_unit _ _ _ _ _ (by exact T 1 1 64 256 rfl rfl) ?_
  refine View.allAt_cons_unit _ _ _ _ _ (by exact T 1 2 64 512 rfl rfl) ?_
  refine View.allAt_cons_unit _ _ _ _ _ (by exact T 1 3 64 768 rfl rfl) ?_
  refine View.allAt_cons_unit _ _ _ _ _ (by exact T 1 4 64 1024 rfl rfl) ?_
  refine View.allAt_cons_unit _ _ _ _ _ (by exact T 1 5 64 1280 rfl rfl) ?_
  refine View.allAt_cons_unit _ _ _ _ _ (by exact T 1 6 64 1536 rfl rfl) ?_
  refine View.allAt_cons_unit _ _ _ _ _ (by exact T 1 7 64 1792 rfl rfl) ?_
  refine View.allAt_cons_unit _ _ _ _ _ (by exact T 0 7 0 1792 rfl rfl) ?_
  refine View.allAt_cons_unit _ _ _ _ _ (by exact T 0 6 0 1536 rfl rfl) ?_
  refine View.allAt_cons_unit _ _ _ _ _ (by exact T 0 5 0 1280 rfl rfl) ?_
  refine View.allAt_cons_unit _ _ _ _ _ (by exact T 0 4 0 1024 rfl rfl) ?_
  refine View.allAt_cons_unit _ _ _ _ _ (by exact T 0 3 0 768 rfl rfl) ?_
  refine View.allAt_cons_unit _ _ _ _ _ (by exact T 0 2 0 512 rfl rfl) ?_
  refine View.allAt_cons_unit _ _ _ _ _ (by exact T 0 1 0 256 rfl rfl) ?_
  refine View.allAt_cons_unit _ _ _ _ _ (by exact T 0 0 0 0 rfl rfl) ?_
  exact View.allAt_nil _ _

/-- What the first point leaves in the extended keys. -/
theorem soutA (hc0 : cond0_0 i) :
    sout0_A_0 c i arg2 harg2 arg3 harg3 arg4 harg4 arg5 harg5 arg6 harg6 hc0 x0 x1 x2
      = VS0_0.read (Elt Ideal) (VS0_0.writes (Elt Ideal) VS0_0.junk (storedA arg3 harg3 x1)) := by
  unfold sout0_A_0 kernelRun0_A
  rfl

/-- What a later point leaves in the extended keys. -/
theorem soutB (hc0 : ¬cond0_0 i) :
    sout0_B_0 c i arg2 harg2 arg3 harg3 arg4 harg4 arg5 harg5 arg6 harg6 hc0 x0 x1 x2 xs0
      = arg6.view.read (Elt Ideal) (arg6.view.writes (Elt Ideal) (harg6.unread xs0)
          [⟨Rect.unit ![0, 0] S2048x128.size inb_S2048x256_S2048x128_0_0, k0_pay2 (F := Ideal) (ldK arg3 harg3 x1)⟩]) := by
  unfold sout0_B_0 kernelRun0_B
  rfl
end

end Cert.Moba

end
-- ==== Proof.MobaLoad.lean ====
/- What the body reads, at an index: the keys, a head's queries and values, and the extended keys. -/
module

public import proofs.«01_k».proof.Proof.MobaPieces
public import Idealize.ShloMosaic.Lib.WritesUnit

@[expose] public section

noncomputable section

namespace Cert.Moba

open Idealize.ShloMosaic Idealize.SL.Sem Cert.KernelIdeal Cert.KernelIdeal.Gen

/-- The quotient of a word by 256 toward minus infinity, in the kernel's operations. -/
def wdiv (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 256#32 0#32)) (Scalar.extui (Scalar.cmpi CmpIPredicate.slt 256#32 0#32))))
      (IntOp.cmpi CmpIPredicate.ne (IntOp.remsi ArithUnit.vector w 256#32) 0#32))
    (IntOp.subi (IntOp.divsi ArithUnit.vector w 256#32) 1#32)
    (IntOp.divsi ArithUnit.vector w 256#32)

theorem wdiv_eq : ∀ t : Fin 2048, wdiv (BitVec.ofNat 32 t.val) = BitVec.ofNat 32 (t.val / 256) := by
  decide +kernel

/-- Whether key `t` is in block `l`. -/
def ind (t : Fin 2048) (l : ℕ) : EReal := if t.val / 256 = l then 1 else 0

set_option pp.maxSteps 400 in
theorem pay3_apply (t : Fin 2048) (l : Fin 128) : (k0_pay3 (F := Ideal)) (ix2 t l) = ind t l.val := by
  unfold k0_pay3
  pointwise
  show Scalar.select (IntOp.cmpi CmpIPredicate.eq (wdiv (BitVec.ofNat 32 t.val)) (BitVec.ofNat 32 l.val)) (1 : EReal) 0 = _
  rw [wdiv_eq]
  unfold ind
  refine if_congr ?_ rfl rfl
  rw [WordCmp.cmpi_eq_ofNat (by omega) (by omega)]
  by_cases h : t.val / 256 = l.val <;> simp [h]

/-- The extended keys. -/
def kext (k : FVec Ideal S2048x128 .bf16) (t : Fin 2048) (l : Fin 256) : EReal :=
  if h : l.val < 128 then k (ix2 t ⟨l.val, h⟩) else ind t (l.val - 128)

theorem pay2_eq (k : FVec Ideal S2048x128 .bf16) : k0_pay2 (F := Ideal) k = k := by
  unfold k0_pay2
  dsimp only
  rw [shapeCast_self, shapeCast_self]

section
variable (arg2 : Memref sig .tc .vmem S128x2048 .f32) (harg2 : arg2.IsWhole) (arg3 : Memref sig .tc .vmem S2048x128 .bf16) (harg3 : arg3.IsWhole) (arg4 : Memref sig .tc .vmem S128x2048 .bf16) (harg4 : arg4.IsWhole) (arg6 : Memref sig .tc .vmem S2048x256 .bf16) (harg6 : arg6.IsWhole)
    (x0 : Vec Ideal S128x2048 .f32) (x1 : Vec Ideal S2048x128 .bf16) (x2 : Vec Ideal S128x2048 .bf16) (xs0 : Vec Ideal S2048x256 .bf16)

theorem ldK_eq : ldK arg3 harg3 x1 = x1 := by
  unfold ldK
  have hz : (![0, 0] : Fin 2 → ℕ) = fun _ => 0 := by
    funext a
    fin_cases a <;> rfl
  rw [View.readAt_eq_ld, harg3.read_unread]
  exact View.ld_unit_zero (S := S2048x128) hz _ _

/-- Row `a` of head `h` of the two. -/
def hrow (h : ℕ) (a : Fin 64) : Fin 128 := ⟨64 * (h % 2) + a.val, by omega⟩

theorem ldQ_apply (h : ℕ) (a : Fin 64) (b : Fin 2048) : ldQ arg2 harg2 x0 h (ix2 a b) = x0 (ix2 (hrow h a) b) := by
  unfold ldQ
  rw [View.readAt_eq_ld, harg2.read_unread]
  refine View.ld_unit_apply_of _ _ _ _ _ _ ?_
  intro k
  match k with
  | ⟨0, _⟩ => rfl
  | ⟨1, _⟩ => show b.val = 0 + b.val; omega

theorem ldV_apply (h : ℕ) (a : Fin 64) (b : Fin 2048) : ldV arg4 harg4 x2 h (ix2 a b) = x2 (ix2 (hrow h a) b) := by
  unfold ldV
  rw [View.readAt_eq_ld, harg4.read_unread]
  refine View.ld_unit_apply_of _ _ _ _ _ _ ?_
  intro k
  match k with
  | ⟨0, _⟩ => rfl
  | ⟨1, _⟩ => show b.val = 0 + b.val; omega

/-- Column `l` of the block numbers. -/
def ncol (l : Fin 128) : Fin 256 := ⟨128 + l.val, by omega⟩

/-- The buffer of the extended keys after the keys' store, over a buffer that held the block numbers. -/
theorem read_B (h : ∀ (t : Fin 2048) (l : Fin 128), xs0 (ix2 t (ncol l)) = ind t l.val) (t : Fin 2048) (l : Fin 256) :
    arg6.view.read (Elt Ideal) (arg6.view.writes (Elt Ideal) (harg6.unread xs0)
          [⟨Rect.unit ![0, 0] S2048x128.size inb_S2048x256_S2048x128_0_0, k0_pay2 (F := Ideal) (ldK arg3 harg3 x1)⟩]) (ix2 t l) = kext x1 t l := by
  unfold kext
  by_cases hl : l.val < 128
  · rw [dif_pos hl, ldK_eq, pay2_eq]
    refine View.read_writes_cons_unit_of_mem _ _ _ _ _ (ix2 t l) (ix2 t ⟨l.val, hl⟩) rfl ?_
    intro k
    match k with
    | ⟨0, _⟩ => show t.val = 0 + t.val; omega
    | ⟨1, _⟩ => show l.val = 0 + l.val; omega
  · rw [dif_neg hl]
    refine (View.read_writes_cons_unit_of_not_mem _ _ _ _ _ _ rfl (1 : Fin 2) (Or.inr (by show 0 + 128 ≤ l.val; omega))).trans ?_
    have e := h t ⟨l.val - 128, by omega⟩
    have e' : ncol ⟨l.val - 128, by omega⟩ = l := Fin.ext (by show 128 + (l.val - 128) = l.val; omega)
    rw [e'] at e
    refine Eq.trans ?_ e
    show arg6.view.read (Elt Ideal) (harg6.unread xs0) (ix2 t l) = _
    rw [harg6.read_unread]

/-- The buffer of the extended keys after the first point's two stores, through any whole buffer. -/
theorem read_A {sg : RefSig} {κ : Kind} {sp : Space} (w : View sg κ sp S2048x256 .bf16) (f : w.ty.Contents (Elt Ideal)) (t : Fin 2048) (l : Fin 256) :
    w.read (Elt Ideal) (w.writes (Elt Ideal) f (storedA arg3 harg3 x1)) (ix2 t l) = kext x1 t l := by
  unfold kext storedA
  by_cases hl : l.val < 128
  · rw [dif_pos hl, ldK_eq, pay2_eq]
    refine (View.read_writes_cons_unit_of_not_mem _ _ _ _ _ _ rfl (1 : Fin 2) (Or.inl (by show l.val < 128; omega))).trans ?_
    refine View.read_writes_cons_unit_of_mem _ _ _ _ _ (ix2 t l) (ix2 t ⟨l.val, hl⟩) rfl ?_
    intro k
    match k with
    | ⟨0, _⟩ => show t.val = 0 + t.val; omega
    | ⟨1, _⟩ => show l.val = 0 + l.val; omega
  · rw [dif_neg hl]
    refine (View.read_writes_cons_unit_of_mem _ _ _ _ _ (ix2 t l) (ix2 t ⟨l.val - 128, by omega⟩) rfl ?_).trans (pay3_apply _ _)
    intro k
    match k with
    | ⟨0, _⟩ => show t.val = 0 + t.val; omega
    | ⟨1, _⟩ => show l.val = 128 + (l.val - 128); omega

theorem ldB_apply (h : ∀ (t : Fin 2048) (l : Fin 128), xs0 (ix2 t (ncol l)) = ind t l.val) (j : ℕ) (r l : Fin 256) :
    ldB arg3 harg3 arg6 harg6 x1 xs0 j (ix2 r l) = kext x1 (col j r) l := by
  unfold ldB
  rw [View.readAt_eq_ld]
  refine (View.ld_unit_apply_of _ _ _ _ _ (ix2 (col j r) l) ?_).trans (read_B arg3 harg3 arg6 harg6 x1 xs0 h _ _)
  intro k
  match k with
  | ⟨0, _⟩ => rfl
  | ⟨1, _⟩ => show l.val = 0 + l.val; omega

theorem ldA_apply (j : ℕ) (r l : Fin 256) : ldA arg3 harg3 arg6 x1 j (ix2 r l) = kext x1 (col j r) l := by
  unfold ldA View.readCov
  rw [View.readAt_eq_ld]
  refine (View.ld_unit_apply_of _ _ _ _ _ (ix2 (col j r) l) ?_).trans (read_A arg3 harg3 x1 _ _ _ _)
  intro k
  match k with
  | ⟨0, _⟩ => rfl
  | ⟨1, _⟩ => show l.val = 0 + l.val; omega

/-- A head's rows of a block. -/
def rows {e : EltTy} (x : Vec Ideal S128x2048 e) (h : ℕ) : Vec Ideal S64x2048 e := fun y => x (ix2 (hrow h (y 0)) (y 1))

/-- The extended keys in blocks. -/
def kblocks (k : FVec Ideal S2048x128 .bf16) (j : ℕ) : FVec Ideal S256x256 .bf16 := fun y => kext k (col j (y 0)) (y 1)

/-- What any point leaves in its output block, from its three input blocks. -/
def left (q : Vec Ideal S128x2048 .f32) (k : Vec Ideal S2048x128 .bf16) (v : Vec Ideal S128x2048 .bf16) : Vec Ideal S128x2048 .bf16 :=
  outAt k (rows q) (rows v) (kblocks k)

theorem ldQ_eq : ldQ arg2 harg2 x0 = rows x0 := by
  funext h y
  exact (congrArg _ (eq_ix2 y)).trans (ldQ_apply arg2 harg2 x0 h (y 0) (y 1))

theorem ldV_eq : ldV arg4 harg4 x2 = rows x2 := by
  funext h y
  exact (congrArg _ (eq_ix2 y)).trans (ldV_apply arg4 harg4 x2 h (y 0) (y 1))

theorem ldA_eq : ldA arg3 harg3 arg6 x1 = kblocks x1 := by
  funext j y
  exact (congrArg _ (eq_ix2 y)).trans (ldA_apply arg3 harg3 arg6 x1 j (y 0) (y 1))

theorem ldB_eq (h : ∀ (t : Fin 2048) (l : Fin 128), xs0 (ix2 t (ncol l)) = ind t l.val) : ldB arg3 harg3 arg6 harg6 x1 xs0 = kblocks x1 := by
  funext j y
  exact (congrArg _ (eq_ix2 y)).trans (ldB_apply arg3 harg3 arg6 harg6 x1 xs0 h j (y 0) (y 1))
end

variable (m : (ℓ : Loc nD τ sig) → Buf (Elt Ideal) ℓ)

/-- The extended keys hold the block numbers after every point. -/
theorem numbers (c : Dev nD) : ∀ (n : ℕ) (hn : n < cfg0.N) (t : Fin 2048) (l : Fin 128), (outsAt0 m c n hn).2 (ix2 t (ncol l)) = ind t l.val := by
  have hk : ∀ (k : FVec Ideal S2048x128 .bf16) (t : Fin 2048) (l : Fin 128), kext k t (ncol l) = ind t l.val := by
    intro k t l
    unfold kext ncol
    rw [dif_neg (by show ¬128 + l.val < 128; omega)]
    exact congrArg (ind t) (by show 128 + l.val - 128 = l.val; omega)
  intro n
  induction n with
  | zero =>
    intro hn t l
    rw [outsAt0_A m c ⟨0, hn⟩ (Nat.zero_mod _)]
    dsimp only
    rw [soutA, read_A, hk]
  | succ n ih =>
    intro hn t l
    have hN : n + 1 < 64 := lt_of_lt_of_eq hn (show cfg0.N = 64 from N_0)
    rw [outsAt0_B m c ⟨n + 1, hn⟩ (by show ¬(n + 1) % 64 = 0; omega)]
    dsimp only
    rw [soutB]
    exact (read_B _ _ _ _ _ _ (ih (Nat.lt_of_succ_lt hn)) t (ncol l)).trans (hk _ t l)

/-- What every point leaves in its output block. -/
theorem outs_eq (c : Dev nD) (t : Fin cfg0.N) : (outsAt0 m c t.val t.isLt).1 = left (iblk m c 0 t) (iblk m c 1 t) (iblk m c 2 t) := by
  by_cases h0 : t.val % 64 = 0
  · rw [outsAt0_A m c t h0]
    funext y
    dsimp only
    rw [outA, ldK_eq, ldQ_eq, ldV_eq, ldA_eq]
    rfl
  · rw [outsAt0_B m c t h0]
    funext y
    dsimp only
    rw [outB, ldK_eq, ldQ_eq, ldV_eq, ldB_eq (h := numbers m c _ _)]
    rfl

end Cert.Moba

end
-- ==== Proof.MobaQ.lean ====
/- The queries' columns and the values' rows of the attention kernel, at an index. -/
module

public import proofs.«01_k».proof.Proof.MobaLoad
public import proofs.«01_k».proof.Proof.MobaMath

@[expose] public section

noncomputable section

namespace Cert.Moba

open Idealize.ShloMosaic Idealize.SL.Sem Cert.KernelIdeal Cert.KernelIdeal.Gen
open scoped Classical

/-- The scale of the logits: one over eight times the logarithm of two. -/
def csc : ℝ := (8 * Real.log 2)⁻¹

theorem csc_pos : 0 < csc := by
  unfold csc
  have := Real.log_pos (x := 2) (by norm_num)
  positivity

theorem scale_eq : (Named.named κ "scale" 0x3E38AA3B#32 : Ideal .f32) = ((csc : ℝ) : EReal) :=
  IdealRules.named_const.ideal_named_scalar _ _ _ _ rfl

/-- The scaled queries of head `h`, with zeros at the other head's rows. -/
def qpad (h : ℕ) (Q : Fin 2048 → Fin 64 → ℝ) (l : Fin 128) (s : Fin 2048) : EReal :=
  if l.val / 64 = h then ((Q s ⟨l.val % 64, Nat.mod_lt _ (by omega)⟩ * csc : ℝ) : EReal) else 0

theorem pay12_apply (q : FVec Ideal S64x2048 .f32) (Q : Fin 2048 → Fin 64 → ℝ) (hq : ∀ d s, q (ix2 d s) = ((Q s d : ℝ) : EReal)) (l : Fin 128) (s : Fin 2048) :
    k0_pay12 (k0_pay7 (F := Ideal)) q (ix2 l s) = qpad 0 Q l s := by
  unfold k0_pay12 k0_pay7 qpad
  pointwise
  rw [scale_eq, EReal.coe_mul]
  by_cases h : l.val < 64
  · rw [dif_pos h, if_pos (by omega), hq]
    have e : (⟨l.val % 64, Nat.mod_lt _ (by omega)⟩ : Fin 64) = ⟨l.val, h⟩ := Fin.ext (Nat.mod_eq_of_lt h)
    rw [e]
  · rw [dif_neg h, if_neg (by omega)]

theorem pay18_apply (q : FVec Ideal S64x2048 .f32) (Q : Fin 2048 → Fin 64 → ℝ) (hq : ∀ d s, q (ix2 d s) = ((Q s d : ℝ) : EReal)) (l : Fin 128) (s : Fin 2048) :
    k0_pay18 (k0_pay7 (F := Ideal)) q (ix2 l s) = qpad 1 Q l s := by
  unfold k0_pay18 k0_pay7 qpad
  pointwise
  rw [scale_eq, EReal.coe_mul]
  by_cases h : l.val < 64
  · rw [dif_pos h, if_neg (by omega)]
  · rw [dif_neg h]
    refine Eq.trans ?_ (if_pos (by omega)).symm
    refine congrArg (· * _) ((hq _ _).trans ?_)
    congr 2
    exact Fin.ext (by show l.val - 64 = l.val % 64; omega)

theorem sum128 (f : Fin 128 → EReal) : ∑ l, f l = ∑ d, f (hrow 0 d) + ∑ d, f (hrow 1 d) := by
  rw [show ∑ l, f l = ∑ l : Fin (64 + 64), f l from rfl, Fin.sum_univ_add]
  refine congrArg₂ _ (Finset.sum_congr rfl fun d _ => congrArg f (Fin.ext ?_)) (Finset.sum_congr rfl fun d _ => congrArg f (Fin.ext ?_))
  · show d.val = 0 + d.val; omega
  · rfl

theorem sum_qpad {h : ℕ} (hh : h < 2) (Q : Fin 2048 → Fin 64 → ℝ) (f : Fin 128 → EReal) (s : Fin 2048) :
    ∑ l, f l * qpad h Q l s = ∑ d, f (hrow h d) * ((Q s d * csc : ℝ) : EReal) := by
  have one : ∀ d : Fin 64, qpad h Q (hrow h d) s = ((Q s d * csc : ℝ) : EReal) := by
    intro d
    unfold qpad hrow
    dsimp only
    rw [if_pos (by omega)]
    congr 3
    exact Fin.ext (by show (64 * (h % 2) + d.val) % 64 = d.val; omega)
  have zero : ∀ h' : ℕ, h' < 2 → h' ≠ h → ∀ d : Fin 64, qpad h Q (hrow h' d) s = 0 := by
    intro h' h2 hn d
    unfold qpad hrow
    dsimp only
    rw [if_neg (by omega)]
  rw [sum128]
  interval_cases h
  · simp only [one, zero 1 (by omega) (by omega), mul_zero, Finset.sum_const_zero, add_zero]
  · simp only [one, zero 0 (by omega) (by omega), mul_zero, Finset.sum_const_zero, zero_add]

theorem pay6_apply (j : Fin 8) (s : Fin 2048) : k0_pay6 (ix2 j s) = BitVec.ofNat 32 (s.val / 256) := by
  rw [← wdiv_eq]
  unfold k0_pay6
  pointwise
  rfl

theorem rowI_apply (j : Fin 8) (s : Fin 2048) : rowI (ix2 j s) = BitVec.ofNat 32 j.val := by
  unfold rowI
  pointwise

theorem pay4_apply (j : Fin 16) (t : Fin 2048) : k0_pay4 (F := Ideal) (ix2 j t) = ind t j.val := by
  unfold k0_pay4
  pointwise
  show Scalar.select (IntOp.cmpi CmpIPredicate.eq (wdiv (BitVec.ofNat 32 t.val)) (BitVec.ofNat 32 j.val)) (1 : EReal) 0 = _
  rw [wdiv_eq]
  unfold ind
  refine if_congr ?_ rfl rfl
  rw [WordCmp.cmpi_eq_ofNat (by omega) (by omega)]
  by_cases h : t.val / 256 = j.val <;> simp [h]

theorem slt_iff (j : Fin 8) (s : Fin 2048) : IntOp.cmpi .slt (rowI (ix2 j s)) (k0_pay6 (ix2 j s)) = 1#1 ↔ j < blk s := by
  rw [rowI_apply, pay6_apply, WordCmp.cmpi_slt_ofNat (by omega) (by omega)]
  show _ ↔ j.val < s.val / 256
  by_cases h : j.val < s.val / 256 <;> simp [h]

theorem eighth : Ideal.ofBits .f32 0x3B800000#32 = ((1 / 256 : ℝ) : EReal) := by
  simp [Ideal.ofBits, Ideal.ieee]
  rw [← EReal.coe_mul]
  congr 1
  norm_num

theorem negInf : Ideal.ofBits .f32 0xFF800000#32 = (⊥ : EReal) := by
  simp [Ideal.ofBits, Ideal.ieee]

/-- The mean of a key block, at a lane. -/
def meanL (k : Fin 2048 → Fin 128 → ℝ) (j : Fin 8) (l : Fin 128) : ℝ := (∑ t, if blk t = j then k t l else 0) / 256

section
variable (k : FVec Ideal S2048x128 .bf16) (kr : Fin 2048 → Fin 128 → ℝ) (hk : ∀ t l, k (ix2 t l) = ((kr t l : ℝ) : EReal))
include hk

theorem mean_eq (j : Fin 16) (j' : Fin 8) (h : j.val = j'.val) (l : Fin 128) :
    (∑ t : Fin 2048, k0_pay4 (F := Ideal) (ix2 j t) * k (ix2 t l)) * Ideal.ofBits .f32 0x3B800000#32 = ((meanL kr j' l : ℝ) : EReal) := by
  have e : ∑ t : Fin 2048, k0_pay4 (F := Ideal) (ix2 j t) * k (ix2 t l) = ((∑ t, if blk t = j' then kr t l else 0 : ℝ) : EReal) := by
    rw [coe_sum]
    refine Finset.sum_congr rfl fun t _ => ?_
    rw [pay4_apply, hk, ind, h]
    by_cases e : t.val / 256 = j'.val
    · rw [if_pos e, one_mul, if_pos (Fin.ext e)]
    · rw [if_neg e, zero_mul, if_neg (fun c => e (congrArg Fin.val c))]; rfl
  rw [eighth, e, ← EReal.coe_mul, meanL]
  congr 1
  ring

theorem km_apply (r : Fin 32) (l : Fin 128) : km k (ix2 r l) = if h : r.val < 8 then ((meanL kr ⟨r.val, h⟩ l : ℝ) : EReal) else 0 := by
  unfold km k0_pay5
  pointwise
  have z : ∀ x : ℝ, ((x : ℝ) : EReal) - ((x : ℝ) : EReal) = 0 := fun x => by rw [← EReal.coe_sub, sub_self]; rfl
  by_cases h : r.val < 8
  · rw [dif_pos h, dif_pos h]
    exact mean_eq k kr hk _ ⟨r.val, h⟩ rfl l
  · rw [dif_neg h, dif_neg h]
    by_cases h1 : r.val - 8 < 8
    · rw [dif_pos h1, mean_eq k kr hk _ ⟨r.val - 8, h1⟩ rfl l, z]
    · rw [dif_neg h1]
      by_cases h2 : r.val - 8 - 8 < 8
      · rw [dif_pos h2, mean_eq k kr hk _ ⟨r.val - 8 - 8, h2⟩ rfl l, z, sub_zero]
      · rw [dif_neg h2]

/-- The kernel's gates at an index, from the padded queries `qp`. -/
theorem gates (Q : Fin 2048 → Fin 64 → ℝ) {h : ℕ} (hh : h < 2) (qp : FVec Ideal S128x2048 .bf16) (hqp : ∀ l s, qp (ix2 l s) = qpad h Q l s) (j : Fin 8) (s : Fin 2048) :
    Scalar.select (IntOp.cmpi CmpIPredicate.slt (rowI (ix2 j s)) (k0_pay6 (ix2 j s)))
      (∑ x, km k (ix2 ⟨j.val, by omega⟩ x) * qp (ix2 x s) + ∑ x, km k (ix2 ⟨8 + j.val, by omega⟩ x) * qp (ix2 x s)
        + ∑ x, km k (ix2 ⟨16 + j.val, by omega⟩ x) * qp (ix2 x s))
      (Ideal.ofBits FTy.f32 0xFF800000#32)
    = if j < blk s then (((∑ d, Q s d * meanL kr j (hrow h d)) * csc : ℝ) : EReal) else ⊥ := by
  rw [negInf]
  unfold Scalar.select
  refine if_congr (slt_iff j s) ?_ rfl
  simp only [km_apply k kr hk, hqp]
  have e1 : ¬ (8 + j.val < 8) := by omega
  have e2 : ¬ (16 + j.val < 8) := by omega
  simp only [dif_neg e1, dif_neg e2, zero_mul, Finset.sum_const_zero, add_zero, dif_pos j.isLt]
  rw [sum_qpad hh Q (fun x => ((meanL kr j x : ℝ) : EReal)), Finset.sum_mul, coe_sum]
  refine Finset.sum_congr rfl fun d _ => ?_
  rw [← EReal.coe_mul]
  congr 1
  ring

theorem pay14_apply (q : FVec Ideal S64x2048 .f32) (Q : Fin 2048 → Fin 64 → ℝ) (hq : ∀ d s, q (ix2 d s) = ((Q s d : ℝ) : EReal)) (j : Fin 8) (s : Fin 2048) :
   k0_pay14 (km k) rowI k0_pay6 k0_pay7 q (ix2 j s) = if j < blk s then (((∑ d, Q s d * meanL kr j (hrow 0 d)) * csc : ℝ) : EReal) else ⊥ := by
  unfold k0_pay14 k0_pay13
  pointwise
  exact gates k kr hk Q (by omega) _ (pay12_apply q Q hq) j s

theorem pay20_apply (q : FVec Ideal S64x2048 .f32) (Q : Fin 2048 → Fin 64 → ℝ) (hq : ∀ d s, q (ix2 d s) = ((Q s d : ℝ) : EReal)) (j : Fin 8) (s : Fin 2048) :
   k0_pay20 (km k) rowI k0_pay6 k0_pay7 q (ix2 j s) = if j < blk s then (((∑ d, Q s d * meanL kr j (hrow 1 d)) * csc : ℝ) : EReal) else ⊥ := by
  unfold k0_pay20 k0_pay19
  pointwise
  exact gates k kr hk Q (by omega) _ (pay18_apply q Q hq) j s
end

/-- One comparison of two gates, as the word that the kernel adds up. -/
theorem beat_word (g : Fin 8 → EReal) (i j : Fin 8) (n : ℕ) (hn : n = i.val) :
    BitVec.setWidth 32 (IntOp.ori (BitVec.ofBool (decide (g j < g i))) (IntOp.andi (BitVec.ofBool (decide (g i = g j)))
      (IntOp.cmpi CmpIPredicate.sgt (BitVec.ofNat 32 j.val) (BitVec.ofNat 32 n)))) = BitVec.ofNat 32 (if beat g i j then 1 else 0) := by
  subst hn
  rw [WordCmp.cmpi_sgt_ofNat (by omega) (by omega)]
  unfold beat
  by_cases h1 : g j < g i <;> by_cases h2 : g i = g j <;> by_cases h3 : i < j <;> simp [h1, h2, h3] <;> rfl

set_option pp.maxSteps 600 in
theorem pay16_apply (G : FVec Ideal S8x2048 .f32) (k : FVec Ideal S2048x128 .bf16) (q : FVec Ideal S64x2048 .f32) (hG : k0_pay14 (km k) rowI k0_pay6 k0_pay7 q = G) (j : Fin 8) (s : Fin 2048)
    (h7 : G (ix2 7 s) = ⊥) :
   k0_pay16 rowI G (k0_pay15 (km k) rowI k0_pay6 k0_pay7 q) (ix2 j s) = BitVec.ofNat 32 (rank (fun j => G (ix2 j s)) j) := by
  unfold k0_pay16 k0_pay15
  rw [hG]
  pointwise
  have B : ∀ (i : Fin 8) (n : ℕ), n = i.val → BitVec.setWidth 32 (IntOp.ori (BitVec.ofBool (decide (G (ix2 j s) < G (ix2 i s)))) (IntOp.andi (BitVec.ofBool (decide (G (ix2 i s) = G (ix2 j s))))
      (IntOp.cmpi CmpIPredicate.sgt (BitVec.ofNat 32 j.val) (BitVec.ofNat 32 n)))) = BitVec.ofNat 32 (if beat (fun j => G (ix2 j s)) i j then 1 else 0) :=
    fun i n h => beat_word (fun j => G (ix2 j s)) i j n h
  have b7 := not_beat_last (g := fun j => G (ix2 j s)) h7 j
  unfold rank
  rw [Fin.sum_univ_eight, if_neg b7]
  simp only [rowI_apply, BitVec.ofNat_add]
  rw [B 0 0 rfl, B 1 1 rfl, B 2 2 rfl, B 3 3 rfl, B 4 4 rfl, B 5 5 rfl, B 6 6 rfl]
  simp only [IntOp.addi, BitVec.zero_add, BitVec.add_zero]

set_option pp.maxSteps 600 in
theorem pay24_apply (G : FVec Ideal S8x2048 .f32) (k : FVec Ideal S2048x128 .bf16) (q : FVec Ideal S64x2048 .f32) (hG : k0_pay20 (km k) rowI k0_pay6 k0_pay7 q = G) (j : Fin 8) (s : Fin 2048)
    (h7 : G (ix2 7 s) = ⊥) :
   k0_pay24 rowI G (k0_pay21 (km k) rowI k0_pay6 k0_pay7 q) (k0_pay22 (km k) rowI k0_pay6 k0_pay7 q) (k0_pay23 (km k) rowI k0_pay6 k0_pay7 q) (ix2 j s)
      = BitVec.ofNat 32 (rank (fun j => G (ix2 j s)) j) := by
  unfold k0_pay24 k0_pay21 k0_pay23 k0_pay22
  rw [hG]
  pointwise
  have B : ∀ (i : Fin 8) (n : ℕ), n = i.val → BitVec.setWidth 32 (IntOp.ori (BitVec.ofBool (decide (G (ix2 j s) < G (ix2 i s)))) (IntOp.andi (BitVec.ofBool (decide (G (ix2 i s) = G (ix2 j s))))
      (IntOp.cmpi CmpIPredicate.sgt (BitVec.ofNat 32 j.val) (BitVec.ofNat 32 n)))) = BitVec.ofNat 32 (if beat (fun j => G (ix2 j s)) i j then 1 else 0) :=
    fun i n h => beat_word (fun j => G (ix2 j s)) i j n h
  have b7 := not_beat_last (g := fun j => G (ix2 j s)) h7 j
  unfold rank
  rw [Fin.sum_univ_eight, if_neg b7]
  simp only [rowI_apply, BitVec.ofNat_add]
  rw [B 0 0 rfl, B 1 1 rfl, B 2 2 rfl, B 3 3 rfl, B 4 4 rfl, B 5 5 rfl, B 6 6 rfl]
  simp only [IntOp.addi, BitVec.zero_add, BitVec.add_zero]

theorem rank_lt (g : Fin 8 → EReal) (j : Fin 8) : rank g j < 9 := by
  unfold rank
  refine lt_of_le_of_lt (Finset.sum_le_card_nsmul _ _ 1 fun i _ => ?_) (by simp)
  split <;> omega

/-- The bias of a lane: minus infinity for a past block that was not chosen. -/
def bias (g : Fin 8 → EReal) (s : Fin 2048) (l : Fin 128) : EReal :=
  if h : l.val < 8 then (if (⟨l.val, h⟩ : Fin 8) < blk s ∧ 3 ≤ rank g ⟨l.val, h⟩ then ⊥ else 0) else 0

theorem bias_word (g : Fin 8 → EReal) (j : Fin 8) (s : Fin 2048) (w : BitVec 32) (hw : w = BitVec.ofNat 32 (rank g j)) :
    Scalar.select (IntOp.andi (IntOp.cmpi .slt (rowI (ix2 j s)) (k0_pay6 (ix2 j s))) (IntOp.cmpi .sge w 3#32)) (⊥ : EReal) 0
      = if j < blk s ∧ 3 ≤ rank g j then ⊥ else 0 := by
  have r := rank_lt g j
  unfold Scalar.select
  refine if_congr ?_ rfl rfl
  rw [hw, WordCmp.cmpi_sge_ofNat (by omega) (by omega), rowI_apply, pay6_apply, WordCmp.cmpi_slt_ofNat (by omega) (by omega)]
  show _ ↔ j.val < s.val / 256 ∧ _
  by_cases h : j.val < s.val / 256 <;> by_cases h' : 3 ≤ rank g j <;> simp [h, h'] <;> decide

/-- The queries' columns at an index. -/
def qcol (h : ℕ) (Q K : Fin 2048 → Fin 64 → ℝ) (l : Fin 256) (s : Fin 2048) : EReal :=
  if hl : l.val < 128 then qpad h Q ⟨l.val, hl⟩ s else bias (gate Q K s) s ⟨l.val - 128, by omega⟩

/-- The rank by the kernel's gates is the rank by the gates, since the scale is positive. -/
theorem rank_gate (kr : Fin 2048 → Fin 128 → ℝ) (Q : Fin 2048 → Fin 64 → ℝ) (h : ℕ) (g : Fin 8 → EReal) (s : Fin 2048)
    (hg : ∀ j, g j = if j < blk s then (((∑ d, Q s d * meanL kr j (hrow h d)) * csc : ℝ) : EReal) else ⊥) (j : Fin 8) :
    rank g j = rank (gate Q (fun t d => kr t (hrow h d)) s) j := by
  refine rank_congr fun i => ?_
  have e := beat_scale csc_pos (fun j => ∑ d, Q s d * meanL kr j (hrow h d)) (blk s) i j
  rw [show g = _ from funext hg]
  exact e

section
variable (k : FVec Ideal S2048x128 .bf16) (kr : Fin 2048 → Fin 128 → ℝ) (hk : ∀ t l, k (ix2 t l) = ((kr t l : ℝ) : EReal))
include hk

theorem qw0_apply (q : FVec Ideal S64x2048 .f32) (Q : Fin 2048 → Fin 64 → ℝ) (hq : ∀ d s, q (ix2 d s) = ((Q s d : ℝ) : EReal)) (l : Fin 256) (s : Fin 2048) :
    qw0 k q (ix2 l s) = qcol 0 Q (fun t d => kr t (hrow 0 d)) l s := by
  unfold qw0 k0_pay17 k0_pay13 k0_pay8
  pointwise
  unfold qcol bias
  by_cases hl : l.val < 128
  · rw [dif_pos hl, dif_pos hl]
    exact pay12_apply q Q hq _ _
  · rw [dif_neg hl, dif_neg hl]
    by_cases h8 : l.val - 128 < 8
    · rw [dif_pos h8, dif_pos h8, mask_eq]
      have g := fun j => pay14_apply k kr hk q Q hq j s
      refine (bias_word _ _ s _ (pay16_apply _ k q rfl _ s ?_)).trans ?_
      · exact (g 7).trans (if_neg (by show ¬ (7 : ℕ) < s.val / 256; omega))
      · rw [rank_gate kr Q 0 _ s g]
    · rw [dif_neg h8, dif_neg h8]

theorem qw1_apply (q : FVec Ideal S64x2048 .f32) (Q : Fin 2048 → Fin 64 → ℝ) (hq : ∀ d s, q (ix2 d s) = ((Q s d : ℝ) : EReal)) (l : Fin 256) (s : Fin 2048) :
    qw1 k q (ix2 l s) = qcol 1 Q (fun t d => kr t (hrow 1 d)) l s := by
  unfold qw1 k0_pay26 k0_pay25 k0_pay19 k0_pay8
  pointwise
  unfold qcol bias
  by_cases hl : l.val < 128
  · rw [dif_pos hl, dif_pos hl]
    exact pay18_apply q Q hq _ _
  · rw [dif_neg hl, dif_neg hl]
    by_cases h8 : l.val - 128 < 8
    · rw [dif_pos h8, dif_pos h8, mask_eq]
      have g := fun j => pay20_apply k kr hk q Q hq j s
      refine (bias_word _ _ s _ (pay24_apply _ k q rfl _ s ?_)).trans ?_
      · exact (g 7).trans (if_neg (by show ¬ (7 : ℕ) < s.val / 256; omega))
      · rw [rank_gate kr Q 1 _ s g]
    · rw [dif_neg h8, dif_neg h8]

theorem qwOf_apply {h : ℕ} (hh : h < 2) (q : ℕ → FVec Ideal S64x2048 .f32) (Q : Fin 2048 → Fin 64 → ℝ) (hq : ∀ d s, q h (ix2 d s) = ((Q s d : ℝ) : EReal)) (l : Fin 256) (s : Fin 2048) :
    qwOf h k q (ix2 l s) = qcol h Q (fun t d => kr t (hrow h d)) l s := by
  interval_cases h
  · exact qw0_apply k kr hk (q 0) Q hq l s
  · exact qw1_apply k kr hk (q 1) Q hq l s
end

theorem va_apply {h : ℕ} (hh : h < 2) (v : ℕ → FVec Ideal S64x2048 .bf16) (d : Fin 80) (s : Fin 2048) :
    vaOf h v (ix2 d s) = if hd : d.val < 64 then v h (ix2 ⟨d.val, hd⟩ s) else 1 := by
  interval_cases h
  · show k0_pay10 (F := Ideal) (v 0) (ix2 d s) = _
    unfold k0_pay10 k0_pay9
    pointwise
  · show k0_pay11 (F := Ideal) (v 1) (ix2 d s) = _
    unfold k0_pay11 k0_pay9
    pointwise

end Cert.Moba

end
-- ==== Proof.MobaKer.lean ====
/- The attention kernel's output at an index is the block-sparse attention of its head. -/
module

public import proofs.«01_k».proof.Proof.MobaQ

@[expose] public section

noncomputable section

namespace Cert.Moba

open Idealize.ShloMosaic Idealize.SL.Sem Cert.KernelIdeal Cert.KernelIdeal.Gen
open scoped Classical

/-- A sum over the positions, block by block. -/
theorem sum_blocks {M : Type*} [AddCommMonoid M] (f : Fin 2048 → M) : ∑ t, f t = ∑ j ∈ Finset.range 8, ∑ r : Fin 256, f (col j r) := by
  rw [Finset.sum_range (n := 8), ← Finset.sum_product', Finset.univ_product_univ]
  refine (Fintype.sum_equiv (finProdFinEquiv (m := 8) (n := 256)) _ _ fun x => ?_).symm
  congr 1
  refine Fin.ext ?_
  show 256 * (x.1.val % 8) + x.2.val = x.2.val + 256 * x.1.val
  omega

theorem exp2_eq (x : ℝ) : Ideal.exp2 ((x * csc : ℝ) : EReal) = ((Real.exp (x / 8) : ℝ) : EReal) := by
  rw [Ideal.exp2_coe]
  congr 1
  show (2 : ℝ) ^ (x * csc) = _
  rw [Real.rpow_def_of_pos (by norm_num)]
  congr 1
  unfold csc
  have := (Real.log_pos (x := 2) (by norm_num)).ne'
  field_simp

section
variable (k : FVec Ideal S2048x128 .bf16) (kr : Fin 2048 → Fin 128 → ℝ) (hk : ∀ t l, k (ix2 t l) = ((kr t l : ℝ) : EReal))
  {h : ℕ} (hh : h < 2) (q : ℕ → FVec Ideal S64x2048 .f32) (Q : Fin 2048 → Fin 64 → ℝ) (hq : ∀ d s, q h (ix2 d s) = ((Q s d : ℝ) : EReal))
include hk hh hq

theorem blk_col (j : ℕ) (hj : j < 8) (r : Fin 256) : blk (col j r) = ⟨j, hj⟩ := by
  refine Fin.ext ?_
  show (256 * (j % 8) + r.val) / 256 = j
  omega

/-- A score with its bias. -/
theorem sc_eq (i j : ℕ) (r s : Fin 256) :
    sc (qwOf h k q) (kblocks k) i j r s
      = ((score Q (fun t d => kr t (hrow h d)) (col i s) (col j r) * csc : ℝ) : EReal)
        + (if blk (col j r) < blk (col i s) ∧ 3 ≤ rank (gate Q (fun t d => kr t (hrow h d)) (col i s)) (blk (col j r)) then ⊥ else 0) := by
  unfold sc
  simp only [qwOf_apply k kr hk hh q Q hq]
  rw [show ∑ l : Fin 256, kblocks k j (ix2 r l) * qcol h Q (fun t d => kr t (hrow h d)) l (col i s)
    = ∑ l : Fin (128 + 128), kblocks k j (ix2 r l) * qcol h Q (fun t d => kr t (hrow h d)) l (col i s) from rfl, Fin.sum_univ_add]
  congr 1
  · have e : ∀ l : Fin 128, kblocks k j (ix2 r (Fin.castAdd 128 l)) * qcol h Q (fun t d => kr t (hrow h d)) (Fin.castAdd 128 l) (col i s)
        = ((kr (col j r) l : ℝ) : EReal) * qpad h Q l (col i s) := by
      intro l
      have hl : (Fin.castAdd 128 l).val < 128 := l.isLt
      unfold qcol kblocks kext
      rw [dif_pos hl]
      refine congrArg (· * _) ?_
      exact (dif_pos hl).trans (hk _ _)
    rw [Finset.sum_congr rfl fun l _ => e l, sum_qpad hh Q (fun l => ((kr (col j r) l : ℝ) : EReal)), score, Finset.sum_mul, coe_sum]
    refine Finset.sum_congr rfl fun d _ => ?_
    rw [← EReal.coe_mul]
    congr 1
    ring
  · have e : ∀ l : Fin 128, kblocks k j (ix2 r (Fin.natAdd 128 l)) * qcol h Q (fun t d => kr t (hrow h d)) (Fin.natAdd 128 l) (col i s)
        = ind (col j r) l.val * bias (gate Q (fun t d => kr t (hrow h d)) (col i s)) (col i s) l := by
      intro l
      have hl : ¬ (Fin.natAdd 128 l).val < 128 := by show ¬ 128 + l.val < 128; omega
      have el : (⟨(Fin.natAdd 128 l).val - 128, by have := (Fin.natAdd 128 l).isLt; omega⟩ : Fin 128) = l :=
        Fin.ext (by show 128 + l.val - 128 = l.val; omega)
      unfold qcol kblocks kext
      rw [dif_neg hl, el]
      refine congrArg (· * _) ?_
      refine (dif_neg hl).trans (congrArg (ind (col j r)) ?_)
      show 128 + l.val - 128 = l.val
      omega
    rw [Finset.sum_congr rfl fun l _ => e l]
    have hb := (blk (col j r)).isLt
    rw [Finset.sum_eq_single (⟨(blk (col j r)).val, by omega⟩ : Fin 128)]
    · unfold ind bias
      exact (congrArg₂ (· * ·) (if_pos (show (col j r).val / 256 = (blk (col j r)).val from rfl)) (dif_pos hb)).trans (one_mul _)
    · intro l _ hl
      unfold ind
      rw [if_neg (fun c => hl (Fin.ext c.symm)), zero_mul]
    · intro c
      exact absurd (Finset.mem_univ _) c

/-- The kernel's weight of a key of a block that is not after the query's. -/
theorem wt_eq (i j : ℕ) (hi : i < 8) (hj : j ≤ i) (r s : Fin 256) :
    wt (qwOf h k q) (kblocks k) i j r s = ((wgt Q (fun t d => kr t (hrow h d)) (col i s) (col j r) : ℝ) : EReal) := by
  unfold wt
  rw [sc_eq k kr hk hh q Q hq, blk_col k kr hk hh q Q hq i hi, blk_col k kr hk hh q Q hq j (by omega)]
  unfold wgt allowed
  rw [blk_col k kr hk hh q Q hq i hi, blk_col k kr hk hh q Q hq j (by omega)]
  have le : ∀ a b : Fin 2048, a ≤ b ↔ a.val ≤ b.val := fun _ _ => Iff.rfl
  rcases Nat.lt_or_ge j i with hlt | hge
  · have hne : ¬ ((⟨j, by omega⟩ : Fin 8) = ⟨i, hi⟩) := fun c => by have := congrArg Fin.val c; dsimp only at this; omega
    have hl : (⟨j, by omega⟩ : Fin 8) < ⟨i, hi⟩ := hlt
    rw [if_pos (Or.inl hlt)]
    by_cases hr : rank (gate Q (fun t d => kr t (hrow h d)) (col i s)) ⟨j, by omega⟩ < 3
    · rw [if_neg (by omega), add_zero, exp2_eq, if_pos (Or.inr ⟨hl, hr⟩)]
    · rw [if_pos ⟨hl, by omega⟩, EReal.add_bot, if_neg (by simp only [hne, hr, false_and, and_false, or_self, not_false_eq_true])]
      rfl
  · obtain rfl : j = i := by omega
    have z : ¬ ((⟨j, by omega⟩ : Fin 8) < ⟨j, hi⟩ ∧ 3 ≤ rank (gate Q (fun t d => kr t (hrow h d)) (col j s)) ⟨j, by omega⟩) :=
      fun c => absurd c.1 (lt_irrefl _)
    rw [if_neg z, add_zero]
    have hle : (col j r ≤ col j s) ↔ r.val ≤ s.val := by
      rw [le]
      show 256 * (j % 8) + r.val ≤ 256 * (j % 8) + s.val ↔ _
      omega
    by_cases hrs : r.val ≤ s.val
    · rw [if_pos (Or.inr hrs), exp2_eq, if_pos (Or.inl ⟨rfl, hle.mpr hrs⟩)]
    · rw [if_neg (by simp only [lt_irrefl, hrs, or_self, not_false_eq_true]),
        if_neg (by simp only [lt_irrefl, hle, hrs, false_and, and_false, or_self, not_false_eq_true])]
      rfl

/-- A weight of a key after the query's block is zero. -/
theorem wgt_after (K : Fin 2048 → Fin 64 → ℝ) (i j : ℕ) (hi : i < 8) (hj : j < 8) (hij : i < j) (r s : Fin 256) : wgt Q K (col i s) (col j r) = 0 := by
  unfold wgt allowed
  rw [blk_col k kr hk hh q Q hq i hi, blk_col k kr hk hh q Q hq j hj]
  refine if_neg ?_
  rintro (c | c)
  · have := congrArg Fin.val c.1; dsimp only at this; omega
  · have : j < i := c.1; omega

/-- A unit's weighted sum is the sum over all the keys. -/
theorem sum_wt (f : Fin 2048 → EReal) (i : ℕ) (hi : i < 8) (s : Fin 256) :
    ∑ j ∈ Finset.range (i + 1), ∑ r : Fin 256, f (col j r) * wt (qwOf h k q) (kblocks k) i j r s
      = ∑ t, f t * ((wgt Q (fun t d => kr t (hrow h d)) (col i s) t : ℝ) : EReal) := by
  rw [sum_blocks]
  refine (Finset.sum_subset (Finset.range_mono (show i + 1 ≤ 8 by omega)) ?_).symm.trans ?_ |>.symm
  · intro j hj hn
    rw [Finset.mem_range] at hj hn
    refine Finset.sum_eq_zero fun r _ => ?_
    rw [wgt_after k kr hk hh q Q hq _ i j hi hj (by omega), EReal.coe_zero, mul_zero]
  · refine Finset.sum_congr rfl fun j hj => Finset.sum_congr rfl fun r _ => ?_
    rw [Finset.mem_range] at hj
    rw [wt_eq k kr hk hh q Q hq i j hi (by omega)]

/-- A unit of the kernel is the attention. -/
theorem unit_eq (v : ℕ → FVec Ideal S64x2048 .bf16) (i : ℕ) (hi : i < 8) (d : Fin 64) (s : Fin 256) :
    unit (qwOf h k q) (vaOf h v) (kblocks k) i (ix2 d s)
      = attn Q (fun t d => kr t (hrow h d)) (fun t d => v h (ix2 d t)) (col i s) d := by
  rw [unit_apply]
  unfold attn
  congr 1
  · rw [← sum_wt k kr hk hh q Q hq _ i hi s]
    refine Finset.sum_congr rfl fun j _ => Finset.sum_congr rfl fun r _ => ?_
    rw [va_apply hh, dif_pos (show (⟨d.val, by omega⟩ : Fin 80).val < 64 from d.isLt)]
  · rw [coe_sum]
    refine (Finset.sum_congr rfl fun j _ => Finset.sum_congr rfl fun r _ => ?_).trans
      ((sum_wt k kr hk hh q Q hq (fun _ => 1) i hi s).trans (Finset.sum_congr rfl fun t _ => one_mul _))
    rw [va_apply hh]
    rfl
end

/-- What a point leaves in its output block is the attention of the block's two heads. -/
theorem left_eq (q : Vec Ideal S128x2048 .f32) (k : Vec Ideal S2048x128 .bf16) (v : Vec Ideal S128x2048 .bf16)
    (kr : Fin 2048 → Fin 128 → ℝ) (hk : ∀ t l, k (ix2 t l) = ((kr t l : ℝ) : EReal))
    (qr : Fin 2048 → Fin 128 → ℝ) (hq : ∀ s l, q (ix2 l s) = ((qr s l : ℝ) : EReal)) (y0 : Fin 128) (s : Fin 2048) :
    left q k v (ix2 y0 s)
      = attn (fun s d => qr s (hrow (y0.val / 64) d)) (fun t d => kr t (hrow (y0.val / 64) d)) (fun t d => v (ix2 (hrow (y0.val / 64) d) t)) s
          ⟨y0.val % 64, Nat.mod_lt _ (by omega)⟩ := by
  have e : s = col (s.val / 256) ⟨s.val % 256, Nat.mod_lt _ (by omega)⟩ :=
    Fin.ext (by show s.val = 256 * (s.val / 256 % 8) + s.val % 256; omega)
  unfold left outAt
  refine (unit_eq k kr hk (h := y0.val / 64) (by omega) (rows q) (fun s d => qr s (hrow (y0.val / 64) d)) (fun d s => hq _ _) (rows v) (s.val / 256) (by omega) _ _).trans ?_
  exact (congrArg (fun x => attn (fun s d => qr s (hrow (y0.val / 64) d)) (fun t d => kr t (hrow (y0.val / 64) d))
    (fun t d => v (ix2 (hrow (y0.val / 64) d) t)) x ⟨y0.val % 64, Nat.mod_lt _ (by omega)⟩) e).symm

end Cert.Moba

end
-- ==== Proof.Moba.lean ====
/- The attention kernel's result array is the reference's, for finite queries and keys. -/
module

public import proofs.«01_k».proof.Proof.MobaPre
public import proofs.«01_k».proof.Proof.MobaKer
public import Idealize.ShloMosaic.Lib.Claim
public import Idealize.ShloMosaic.Lib.Quiescent

@[expose] public section

set_option maxRecDepth 16384

noncomputable section

namespace Cert.Moba

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The queries. -/
abbrev argQ (c : Dev nD) : FVec Ideal Cert.ReferenceIdeal.S16x2048x8x64 .f32 := m ((c : Thread nD τ).loc main_arg0)
/-- The keys. -/
abbrev argK (c : Dev nD) : FVec Ideal Cert.ReferenceIdeal.S16x2048x8x64 .f32 := m ((c : Thread nD τ).loc main_arg1)
/-- The values. -/
abbrev argV (c : Dev nD) : FVec Ideal Cert.ReferenceIdeal.S16x2048x8x64 .f32 := m ((c : Thread nD τ).loc main_arg2)

/-- Point `t` works on the pair of heads `t % 4` of sequence `t / 4`. -/
theorem widx : ∀ t : Fin grid0.N, win0_0.index t 0 = t.val % 4 ∧ win0_0.index t 1 = t.val / 4 ∧ win0_1.index t 0 = t.val / 4
    ∧ win0_1.index t 1 = t.val % 4 ∧ win0_2.index t 0 = t.val % 4 ∧ win0_2.index t 1 = t.val / 4 ∧ win0_3.index t 0 = t.val % 4
    ∧ win0_3.index t 1 = t.val / 4 :=
  by decide +kernel

/-- The sequence of point `t`. -/
abbrev sq (t : Fin grid0.N) : Fin 16 := ⟨t.val / 4, by have h : t.val < 64 := N_0 ▸ t.isLt; omega⟩
/-- The head that lane `l` of point `t`'s blocks belongs to. -/
abbrev hd (t : Fin grid0.N) (l : Fin 128) : Fin 8 := ⟨2 * (t.val % 4) + l.val / 64, by omega⟩
/-- The position in its head of lane `l`. -/
abbrev ln (l : Fin 128) : Fin 64 := ⟨l.val % 64, by omega⟩
/-- The lane of point `t`'s block in the whole array's lanes. -/
abbrev lane (t : Fin grid0.N) (l : Fin 128) : Fin 512 := ⟨t.val % 4 * 128 + l.val, by omega⟩
/-- The token of point `t`'s block in the whole array's tokens. -/
abbrev tok (t : Fin grid0.N) (s : Fin 2048) : Fin 32768 := ⟨t.val / 4 * 2048 + s.val, by
  have h : t.val < 64 := N_0 ▸ t.isLt; omega⟩

/-- The position in the sequences of a lane and a token of the whole arrays. -/
theorem unflat (t : Fin grid0.N) (l : Fin 128) (s : Fin 2048) {α : Type*} (A : (⟨4, ![16, 2048, 8, 64]⟩ : Shape).Idx → α)
    (b : Fin 16) (s' : Fin 2048) (h : Fin 8) (d : Fin 64) (hb : b.val = (tok t s).val / 2048) (hs : s'.val = (tok t s).val % 2048)
    (hh : h.val = (lane t l).val / 64) (hd' : d.val = (lane t l).val % 64) : A (ix4 b s' h d) = A (ix4 (sq t) s (hd t l) (ln l)) := by
  have e1 : b = sq t := Fin.ext (by rw [hb]; show (t.val / 4 * 2048 + s.val) / 2048 = t.val / 4; omega)
  have e2 : s' = s := Fin.ext (by rw [hs]; show (t.val / 4 * 2048 + s.val) % 2048 = s.val; omega)
  have e3 : h = hd t l := Fin.ext (by rw [hh]; show (t.val % 4 * 128 + l.val) / 64 = 2 * (t.val % 4) + l.val / 64; omega)
  have e4 : d = ln l := Fin.ext (by rw [hd']; show (t.val % 4 * 128 + l.val) % 64 = l.val % 64; omega)
  rw [e1, e2, e3, e4]

theorem blkq (c : Dev nD) (t : Fin cfg0.N) (l : Fin 128) (s : Fin 2048) :
    iblk m c 0 t (ix2 l s) = argQ m c (ix4 (sq t) s (hd t l) (ln l)) := by
  unfold iblk
  rw [View.read_apply]
  have e : ((cfg0.win 0).blk t).view.emb (ix2 l s) = ix2 (lane t l) (tok t s) := by
    funext a
    apply Fin.ext
    obtain ⟨h0, h1, -⟩ := widx t
    match a with
    | ⟨0, _⟩ => show win0_0.index t 0 * 128 + 1 * l.val = _; rw [h0]; show t.val % 4 * 128 + 1 * l.val = t.val % 4 * 128 + l.val; omega
    | ⟨1, _⟩ => show win0_0.index t 1 * 2048 + 1 * s.val = _; rw [h1]; show t.val / 4 * 2048 + 1 * s.val = t.val / 4 * 2048 + s.val; omega
  rw [e]
  entry_read
  refine (cast_eq _ _).trans ?_
  pointwise
  exact unflat t l s _ _ _ _ _ rfl rfl rfl rfl

theorem blkk (c : Dev nD) (t : Fin cfg0.N) (s : Fin 2048) (l : Fin 128) :
    iblk m c 1 t (ix2 s l) = argK m c (ix4 (sq t) s (hd t l) (ln l)) := by
  unfold iblk
  rw [View.read_apply]
  have e : ((cfg0.win 1).blk t).view.emb (ix2 s l) = ix2 (tok t s) (lane t l) := by
    funext a
    apply Fin.ext
    obtain ⟨-, -, h0, h1, -⟩ := widx t
    match a with
    | ⟨0, _⟩ => show win0_1.index t 0 * 2048 + 1 * s.val = _; rw [h0]; show t.val / 4 * 2048 + 1 * s.val = t.val / 4 * 2048 + s.val; omega
    | ⟨1, _⟩ => show win0_1.index t 1 * 128 + 1 * l.val = _; rw [h1]; show t.val % 4 * 128 + 1 * l.val = t.val % 4 * 128 + l.val; omega
  rw [e]
  entry_read
  refine (cast_eq _ _).trans ?_
  pointwise
  exact unflat t l s _ _ _ _ _ rfl rfl rfl rfl

theorem blkv (c : Dev nD) (t : Fin cfg0.N) (l : Fin 128) (s : Fin 2048) :
    iblk m c 2 t (ix2 l s) = argV m c (ix4 (sq t) s (hd t l) (ln l)) := by
  unfold iblk
  rw [View.read_apply]
  have e : ((cfg0.win 2).blk t).view.emb (ix2 l s) = ix2 (lane t l) (tok t s) := by
    funext a
    apply Fin.ext
    obtain ⟨-, -, -, -, h0, h1, -⟩ := widx t
    match a with
    | ⟨0, _⟩ => show win0_2.index t 0 * 128 + 1 * l.val = _; rw [h0]; show t.val % 4 * 128 + 1 * l.val = t.val % 4 * 128 + l.val; omega
    | ⟨1, _⟩ => show win0_2.index t 1 * 2048 + 1 * s.val = _; rw [h1]; show t.val / 4 * 2048 + 1 * s.val = t.val / 4 * 2048 + s.val; omega
  rw [e]
  entry_read
  refine (cast_eq _ _).trans ?_
  pointwise
  exact unflat t l s _ _ _ _ _ rfl rfl rfl rfl

/-- The result array: the reference's function of the arguments. -/
def result (c : Dev nD) : Vec Ideal S512x32768 .bf16 := Cert.ReferenceIdeal.Read.val_main_v137 (F := Ideal) (argQ m c) (argK m c) (argV m c)

/-- With finite scores everywhere, no score of the reference is infinite. -/
theorem score_ne_top (x0 x1 : FVec Ideal Cert.ReferenceIdeal.S16x2048x8x64 .f32) (X Y : Cert.ReferenceIdeal.S16x2048x8x64.Idx → ℝ)
    (hX : ∀ i, (x0 i : EReal) = X i) (hY : ∀ i, (x1 i : EReal) = Y i) (i) : (Cert.ReferenceIdeal.Read.val_main_v98 (F := Ideal) x0 x1 i : EReal) ≠ ⊤ := by
  obtain ⟨b, h, s, n, x, rfl⟩ : ∃ b h s n x, i = ix5 b h s n x := ⟨_, _, _, _, _, eq_ix5 i⟩
  rw [Ref.v98_eq x0 x1 b h (fun s d => X (ix4 b s h d)) (fun t d => Y (ix4 b t h d)) (fun s d => hX _) (fun t d => hY _) s n x]
  split
  · exact EReal.coe_ne_top _
  · exact bot_ne_top

theorem hrow_hd (t : Fin grid0.N) (y : Fin 128) (d : Fin 64) : hd t (hrow (y.val / 64) d) = hd t y := Fin.ext (by
  show 2 * (t.val % 4) + (64 * (y.val / 64 % 2) + d.val) / 64 = 2 * (t.val % 4) + y.val / 64
  omega)
theorem hrow_ln (y : Fin 128) (d : Fin 64) : ln (hrow (y.val / 64) d) = d := Fin.ext (by
  show (64 * (y.val / 64 % 2) + d.val) % 64 = d.val
  omega)

/-- A block of the kernel's result is the block of the reference's, its inputs being the blocks of the reference's arguments. -/
theorem left_ref (x0 x1 x2 : FVec Ideal Cert.ReferenceIdeal.S16x2048x8x64 .f32) (X Y : Cert.ReferenceIdeal.S16x2048x8x64.Idx → ℝ)
    (hX : ∀ i, (x0 i : EReal) = X i) (hY : ∀ i, (x1 i : EReal) = Y i) (t : Fin grid0.N) (q : Vec Ideal S128x2048 .f32)
    (k : Vec Ideal S2048x128 .bf16) (v : Vec Ideal S128x2048 .bf16) (hq : ∀ l s, q (ix2 l s) = x0 (ix4 (sq t) s (hd t l) (ln l)))
    (hk : ∀ s l, k (ix2 s l) = x1 (ix4 (sq t) s (hd t l) (ln l))) (hv : ∀ l s, v (ix2 l s) = x2 (ix4 (sq t) s (hd t l) (ln l)))
    (y : Fin 128) (s : Fin 2048) :
    left q k v (ix2 y s) = Cert.ReferenceIdeal.Read.val_main_v137 (F := Ideal) x0 x1 x2 (ix2 (lane t y) (tok t s)) := by
  refine ((left_eq q k v (fun s l => Y (ix4 (sq t) s (hd t l) (ln l))) (fun s l => (hk s l).trans (hY _))
    (fun s l => X (ix4 (sq t) s (hd t l) (ln l))) (fun s l => (hq l s).trans (hX _)) y s).trans ?_).trans
    ((Ref.v137_read x0 x1 x2 (hd t y) (ln y) (sq t) s (lane t y) (tok t s)
    (by show t.val % 4 * 128 + y.val = 64 * (2 * (t.val % 4) + y.val / 64) + y.val % 64; omega)
    (by show t.val / 4 * 2048 + s.val = 2048 * (t.val / 4) + s.val; omega)).trans
    (Ref.v134_attn x0 x1 x2 (sq t) (hd t y) (fun s d => X (ix4 (sq t) s (hd t y) d)) (fun s d => Y (ix4 (sq t) s (hd t y) d))
    (fun s d => hX _) (fun s d => hY _) (score_ne_top x0 x1 X Y hX hY) s (ln y))).symm
  simp only [hv, hrow_hd, hrow_ln]

theorem flushed_eq (c : Dev nD) (t : Fin cfg0.N) (X Y : Cert.ReferenceIdeal.S16x2048x8x64.Idx → ℝ)
    (hX : ∀ i, (argQ m c i : EReal) = X i) (hY : ∀ i, (argK m c i : EReal) = Y i) :
    (dats m 0 c).flushed 3 t = ((cfg0.win 3).blk t).view.read (Elt Ideal) (result m c) := by
  rw [Cert.KernelIdeal.Value.flushed3, outs_eq]
  funext j
  obtain ⟨y, s, rfl⟩ : ∃ (y : Fin 128) (s : Fin 2048), j = ix2 y s := ⟨j 0, j 1, eq_ix2 j⟩
  rw [View.read_apply]
  have e : ((cfg0.win 3).blk t).view.emb (ix2 y s) = ix2 (lane t y) (tok t s) := by
    funext a
    apply Fin.ext
    obtain ⟨-, -, -, -, -, -, h0, h1⟩ := widx t
    match a with
    | ⟨0, _⟩ => show win0_3.index t 0 * 128 + 1 * y.val = _; rw [h0]; show t.val % 4 * 128 + 1 * y.val = t.val % 4 * 128 + y.val; omega
    | ⟨1, _⟩ => show win0_3.index t 1 * 2048 + 1 * s.val = _; rw [h1]; show t.val / 4 * 2048 + 1 * s.val = t.val / 4 * 2048 + s.val; omega
  rw [e]
  have h := left_ref (argQ m c) (argK m c) (argV m c) X Y hX hY t (iblk m c 0 t) (iblk m c 1 t) (iblk m c 2 t) (blkq m c t) (blkk m c t)
    (blkv m c t) y s
  generalize left (iblk m c 0 t) (iblk m c 1 t) (iblk m c 2 t) = L at h ⊢
  generalize hR : Cert.ReferenceIdeal.Read.val_main_v137 (F := Ideal) (argQ m c) (argK m c) (argV m c) = R at h
  refine Eq.trans ?_ (cast_eq _ _).symm
  refine Eq.trans (b := L (ix2 y s)) rfl ?_
  have hR' : result m c = R := hR
  rw [hR']
  exact h

theorem final (c : Dev nD) (hf : (∀ i, ∃ r : ℝ, (argQ m c i : EReal) = r) ∧ ∀ i, ∃ r : ℝ, (argK m c i : EReal) = r) :
    (dats m 0 c).arrAt 3 cfg0.N = result m c := by
  obtain ⟨X, hX⟩ := Classical.axiom_of_choice hf.1
  obtain ⟨Y, hY⟩ := Classical.axiom_of_choice hf.2
  exact (dats m 0 c).arrAt_eq_of_cover 3 (result m c) (fun t _ => flushed_eq m c t X Y hX hY) fun i => by
    have h0 : (i 0 : Nat) < 512 := (i 0).isLt
    have h1 : (i 1 : Nat) < 32768 := (i 1).isLt
    exact (Cert.KernelIdeal.Value.covered_iff3 i).mpr ⟨Nat.zero_le _, h0, Nat.zero_le _, h1⟩

/-- The reference leaves the last of its named values in its result array, and its arguments unchanged. -/
theorem run_ref (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
      r.2.mem ((c.tc : Thread Cert.ReferenceIdeal.nD Cert.ReferenceIdeal.τ).loc Cert.ReferenceIdeal.main_v137)
        = Cert.ReferenceIdeal.Read.val_main_v137 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2) := by
  refine (θ_run Cert.ReferenceIdeal.defs _ _).mono (fun _ h c => ⟨(h c).1.trans ?_, (h c).2⟩) (Cert.ReferenceIdeal.Value.run (F := Ideal) m' g')
  have e := Cert.ReferenceIdeal.Read.val_main_v137_eq (F := Ideal) (StableHlo.launchContents m' c)
  have a0 : StableHlo.launchContents m' c (Proc.devRef .tc Cert.ReferenceIdeal.main_arg0) = m' ((c.tc : Thread Cert.ReferenceIdeal.nD Cert.ReferenceIdeal.τ).loc Cert.ReferenceIdeal.main_arg0) := rfl
  have a1 : StableHlo.launchContents m' c (Proc.devRef .tc Cert.ReferenceIdeal.main_arg1) = m' ((c.tc : Thread Cert.ReferenceIdeal.nD Cert.ReferenceIdeal.τ).loc Cert.ReferenceIdeal.main_arg1) := rfl
  have a2 : StableHlo.launchContents m' c (Proc.devRef .tc Cert.ReferenceIdeal.main_arg2) = m' ((c.tc : Thread Cert.ReferenceIdeal.nD Cert.ReferenceIdeal.τ).loc Cert.ReferenceIdeal.main_arg2) := rfl
  rw [a0, a1, a2] at e
  exact e

theorem algebraic [Cert.KernelIdeal.Facts] [Cert.ReferenceIdeal.Facts] [Cert.Pre_finite_qk.Facts] :
    Cert.algebraic_KernelIdeal_ReferenceIdeal_pre_finite_qk := by
  intro m g m' g' hpre hagree
  refine ⟨fun c => result m c, ?_, ?_⟩
  · refine (θ_run Cert.KernelIdeal.defs _ _).mono (fun r h c => ⟨(h c).1.trans (final m c (real_of_all _ _ _ (hpre c))), (h c).2⟩)
      (Cert.KernelIdeal.Value.run_blocks (F := Ideal) m g)
  · refine (θ_run Cert.ReferenceIdeal.defs _ _).mono (fun r h c => ⟨(h c).1.trans ?_, (h c).2⟩) (run_ref m' g')
    obtain ⟨h0, h1, h2⟩ := hagree c
    rw [h0, h1, h2]
    unfold result
    exact Eq.refl _

end Cert.Moba

end
-- ==== Proof.MlaPre.lean ====
/- The precondition of causal attention read back: every query and every key is a real number. -/
module

public import proofs.«01_k».proof.Proof.MobaPre
public import proofs.«01_k».proof.Proof.Gen.Pre_finite_mla

@[expose] public section

noncomputable section

namespace Cert.Mla

open Idealize.ShloMosaic

instance : Subsingleton Cert.Pre_finite_mla.S_.Idx := ⟨fun a b => funext fun i => i.elim0⟩

theorem real_of_all [Cert.Pre_finite_mla.Facts] (x y : FVec Ideal Cert.Pre_finite_mla.S16x2048x8x96 .f32)
    (z : FVec Ideal Cert.Pre_finite_mla.S16x2048x8x64 .f32) (o : FVec Ideal Cert.Pre_finite_mla.S1024x1024 .f32)
    (a b : FVec Ideal Cert.Pre_finite_mla.S1024x2816 .f32) (d : FVec Ideal Cert.Pre_finite_mla.S2816x1024 .f32)
    (h : Cert.Pre_finite_mla.fn (F := Ideal) x y z o a b d = fun _ => 1#1) :
    (∀ i, ∃ r : ℝ, (x i : EReal) = r) ∧ ∀ i, ∃ r : ℝ, (y i : EReal) = r := by
  have h0 := congrFun h (fun i => i.elim0)
  dsimp only [Cert.Pre_finite_mla.fn] at h0
  obtain ⟨ha, hb⟩ := (show ∀ a b : BitVec 1, IntOp.andi a b = 1#1 → a = 1#1 ∧ b = 1#1 from by decide) _ _ h0
  refine ⟨fun i => Cert.Moba.real_of_word _ ?_, fun i => Cert.Moba.real_of_word _ ?_⟩
  · rw [← Cert.Moba.Ref.top_word]
    exact Host.reduce_andi_all _ _ _ _ _ ha i
  · rw [← Cert.Moba.Ref.top_word]
    exact Host.reduce_andi_all _ _ _ _ _ hb i

end Cert.Mla

end
-- ==== Proof.MlaMath.lean ====
/- Causal attention of one head over the reals, and the lanes of zeros that the kernel adds to a head. -/
module

public import proofs.«01_k».proof.Proof.MobaSoft

@[expose] public section

noncomputable section

namespace Cert.Mla

open Idealize.ShloMosaic
open Cert.Moba (coe_sum coe_mul_sum)
open scoped Classical

/-- The scale of the scores: the single-precision number next to one over the root of 96. -/
def c0 : ℝ := 3424635 / 33554432

variable (Q K : Fin 2048 → Fin 96 → ℝ) (V : Fin 2048 → Fin 64 → EReal)

/-- The score of query `s` against key `t`, not scaled. -/
def score (s t : Fin 2048) : ℝ := ∑ d, Q s d * K t d

/-- The weight of key `t` for query `s`. -/
def wgt (s t : Fin 2048) : ℝ := if t ≤ s then Real.exp (score Q K s t * c0) else 0

/-- The attention's result. -/
def attn (s : Fin 2048) (d : Fin 64) : EReal :=
  Ideal.div (∑ t, V t d * ((wgt Q K s t : ℝ) : EReal)) ((∑ t, wgt Q K s t : ℝ) : EReal)

theorem wgt_nonneg (s t : Fin 2048) : 0 ≤ wgt Q K s t := by
  unfold wgt
  split
  · exact (Real.exp_pos _).le
  · exact le_refl _

theorem sum_pos (s : Fin 2048) : 0 < ∑ t, wgt Q K s t := by
  refine Finset.sum_pos' (fun t _ => wgt_nonneg Q K s t) ⟨s, Finset.mem_univ _, ?_⟩
  unfold wgt
  rw [if_pos (le_refl s)]
  exact Real.exp_pos _

/-- Weights shifted and divided before the sum give the attention. -/
theorem attn_div (s : Fin 2048) (d : Fin 64) (e : ℝ) (he : 0 < e) :
    ∑ t, Ideal.div ((wgt Q K s t * e : ℝ) : EReal) (((∑ t, wgt Q K s t) * e : ℝ) : EReal) * V t d = attn Q K V s d := by
  unfold attn
  have h := sum_pos Q K s
  generalize ∑ t, wgt Q K s t = L at h
  rw [Ideal.div_coe h.ne', mul_comm (∑ t, V t d * ((wgt Q K s t : ℝ) : EReal)), coe_mul_sum _ _ (by positivity)]
  refine Finset.sum_congr rfl fun t _ => ?_
  rw [Ideal.div_coe (mul_pos h he).ne', mul_comm (V t d), ← mul_assoc, ← EReal.coe_mul, ← EReal.coe_mul]
  congr 2
  field_simp

/-- A head's 96 lanes and 32 lanes of zeros. -/
def pad (f : Fin 96 → ℝ) (l : Fin 128) : ℝ := if h : l.val < 96 then f ⟨l.val, h⟩ else 0

theorem sum_pad (f g : Fin 96 → ℝ) : ∑ l : Fin 128, pad f l * pad g l = ∑ d : Fin 96, f d * g d := by
  rw [show ∑ l : Fin 128, pad f l * pad g l = ∑ l : Fin (96 + 32), pad f l * pad g l from rfl, Fin.sum_univ_add]
  have z : ∀ l : Fin 32, pad f (Fin.natAdd 96 l) * pad g (Fin.natAdd 96 l) = 0 := by
    intro l
    unfold pad
    rw [dif_neg (show ¬ (Fin.natAdd 96 l).val < 96 by show ¬ 96 + l.val < 96; omega), zero_mul]
  rw [Finset.sum_congr rfl fun l _ => z l, Finset.sum_const_zero, add_zero]
  refine Finset.sum_congr rfl fun d _ => ?_
  unfold pad
  exact congrArg₂ (· * ·) (dif_pos (show (Fin.castAdd 32 d).val < 96 from d.isLt)) (dif_pos (show (Fin.castAdd 32 d).val < 96 from d.isLt))

end Cert.Mla

end
-- ==== Proof.MlaRef.lean ====
/- The reference's causal attention at an index: the masked scores, the softmax, the weighted values. -/
module

public import proofs.«01_k».proof.Proof.Gen.Reference3Ideal.Read
public import proofs.«01_k».proof.Proof.MlaMath
public import proofs.«01_k».proof.Proof.MobaRead2

@[expose] public section

noncomputable section

namespace Cert.Mla.Ref

open Idealize.ShloMosaic Cert.Reference3Ideal Cert.Reference3Ideal.Read Cert.Reference3Ideal.Gen
open Cert.Moba (fold_max_real coe_sum exp_shift exp_bot_shift)
open Cert.Moba.Ref (bot_word)

theorem scale_word : Ideal.ofBits .f32 0x3DD105EC#32 = ((c0 : ℝ) : EReal) := by
  unfold c0
  simp [Ideal.ofBits, Ideal.ieee]
  rw [← EReal.coe_mul]
  congr 1
  norm_num

theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [Idealize.ShloMosaic.WordCmp.cmpi_sle_ofNat (by omega) (by omega)]
  by_cases h : a ≤ b <;> simp [h, Scalar.select]

variable (x0 x1 : (⟨S16x2048x8x96, .f32⟩ : BufTy).Contents (Elt Ideal)) (x2 : (⟨S16x2048x8x64, .f32⟩ : BufTy).Contents (Elt Ideal))

theorem v0_apply (b : Fin 16) (h : Fin 8) (s : Fin 2048) (d : Fin 96) : val_main_v0 x0 (ix4 b h s d) = x0 (ix4 b s h d) := by
  unfold val_main_v0
  pointwise

theorem v1_apply (b : Fin 16) (h : Fin 8) (s : Fin 2048) (d : Fin 96) : val_main_v1 x1 (ix4 b h s d) = x1 (ix4 b s h d) := by
  unfold val_main_v1
  pointwise

theorem v2_apply (b : Fin 16) (h : Fin 8) (s : Fin 2048) (d : Fin 64) : val_main_v2 x2 (ix4 b h s d) = x2 (ix4 b s h d) := by
  unfold val_main_v2
  pointwise

theorem v4_apply (b : Fin 16) (h : Fin 8) (s t : Fin 2048) :
    val_main_v4 x0 x1 (ix4 b h s t) = ∑ d, (x0 (ix4 b s h d) : EReal) * (x1 (ix4 b t h d) : EReal) := by
  have e : ∀ d : Fin 96, (x0 (ix4 b s h d) : EReal) * (x1 (ix4 b t h d) : EReal) = (val_main_v0 x0 (ix4 b h s d) : EReal) * (val_main_v1 x1 (ix4 b h t d) : EReal) :=
    fun d => by rw [v0_apply, v1_apply]
  rw [Finset.sum_congr rfl fun d _ => e d]
  unfold val_main_v4
  generalize val_main_v0 x0 = A
  generalize val_main_v1 x1 = B
  pointwise

theorem v13_read (b : Fin 16) (h : Fin 8) (s t : Fin 2048) : val_main_v13 x0 x1 (ix4 b h s t)
    = if t ≤ s then (val_main_v4 x0 x1 (ix4 b h s t) : EReal) * ((c0 : ℝ) : EReal) else (⊥ : EReal) := by
  unfold val_main_v13 val_main_v6
  generalize val_main_v4 x0 x1 = A
  unfold val_main_call0_v1 val_main_call0_v2 val_main_call0_v0 val_main_v12 val_main_v11 val_main_v10 val_main_v9 val_main_v8 val_main_v7
    val_main_v3 val_main_cst_0 val_main_v5 val_main_cst
  pointwise
  rw [select_sle t.val s.val (by omega) (by omega), scale_word]
  exact if_congr Iff.rfl rfl bot_word

theorem v14_read (b : Fin 16) (h : Fin 8) (s : Fin 2048) :
    val_main_v14 x0 x1 (ix3 b h s) = Finset.univ.fold max (⊥ : EReal) fun t : Fin 2048 => val_main_v13 x0 x1 (ix4 b h s t) := by
  unfold val_main_v14
  generalize val_main_v13 x0 x1 = A
  unfold val_main_cst_1
  pointwise
  rw [bot_word]

theorem v16_read (b : Fin 16) (h : Fin 8) (s : Fin 2048) :
    val_main_v16 x0 x1 (ix3 b h s) = max (⊥ : EReal) (Finset.univ.fold max (⊥ : EReal) fun t : Fin 2048 => val_main_v13 x0 x1 (ix4 b h s t)) := by
  rw [val_main_v16_apply, val_main_v15_apply, v14_read]
  generalize Finset.univ.fold max (⊥ : EReal) (fun t : Fin 2048 => (val_main_v13 x0 x1 (ix4 b h s t) : EReal)) = A
  exact congrArg (max · A) bot_word

theorem v20_read (b : Fin 16) (h : Fin 8) (s t : Fin 2048) :
    val_main_v20 x0 x1 (ix4 b h s t) = Ideal.exp ((val_main_v13 x0 x1 (ix4 b h s t) : EReal) - (val_main_v16 x0 x1 (ix3 b h s) : EReal)) := by
  unfold val_main_v20 val_main_v19 val_main_v18 val_main_v17
  generalize val_main_v13 x0 x1 = A
  generalize val_main_v16 x0 x1 = B
  pointwise

theorem v24_read (b : Fin 16) (h : Fin 8) (s t : Fin 2048) :
    val_main_v24 x0 x1 (ix4 b h s t) = Ideal.div (val_main_v20 x0 x1 (ix4 b h s t)) (∑ t : Fin 2048, (val_main_v20 x0 x1 (ix4 b h s t) : EReal)) := by
  unfold val_main_v24 val_main_v23 val_main_v22 val_main_v21
  generalize val_main_v20 x0 x1 = A
  unfold val_main_cst_3
  pointwise

theorem v28_read (h : Fin 8) (d : Fin 64) (b : Fin 16) (s : Fin 2048) (R : Fin 512) (C : Fin 32768) (hR : R.val = 64 * h.val + d.val)
    (hC : C.val = 2048 * b.val + s.val) :
    val_main_v28 x0 x1 x2 (ix2 R C) = ∑ t : Fin 2048, (val_main_v24 x0 x1 (ix4 b h s t) : EReal) * (x2 (ix4 b t h d) : EReal) := by
  have e : ∀ t : Fin 2048, (x2 (ix4 b t h d) : EReal) = (val_main_v2 x2 (ix4 b h t d) : EReal) := fun t => by rw [v2_apply]
  rw [Finset.sum_congr rfl fun t _ => by rw [e t]]
  have e1 : (⟨C.val / 2048, by omega⟩ : Fin 16) = b := Fin.ext (by show C.val / 2048 = b.val; omega)
  have e2 : (⟨R.val / 64, by omega⟩ : Fin 8) = h := Fin.ext (by show R.val / 64 = h.val; omega)
  have e3 : (⟨C.val % 2048, by omega⟩ : Fin 2048) = s := Fin.ext (by show C.val % 2048 = s.val; omega)
  have e4 : (⟨R.val % 64, by omega⟩ : Fin 64) = d := Fin.ext (by show R.val % 64 = d.val; omega)
  have e5 : val_main_v28 x0 x1 x2 (ix2 R C) = val_main_v25 x0 x1 x2 (ix4 b h s d) := by
    unfold val_main_v28 val_main_v27 val_main_v26
    generalize val_main_v25 x0 x1 x2 = A
    pointwise
    rw [e1, e2, e3, e4]
  rw [e5]
  unfold val_main_v25
  generalize val_main_v24 x0 x1 = A
  generalize val_main_v2 x2 = B
  pointwise

section
variable (b : Fin 16) (h : Fin 8) (Q K : Fin 2048 → Fin 96 → ℝ) (hQ : ∀ s d, (x0 (ix4 b s h d) : EReal) = ((Q s d : ℝ) : EReal))
  (hK : ∀ t d, (x1 (ix4 b t h d) : EReal) = ((K t d : ℝ) : EReal))
include hQ hK

theorem v13_eq (s t : Fin 2048) : val_main_v13 x0 x1 (ix4 b h s t) = if t ≤ s then ((score Q K s t * c0 : ℝ) : EReal) else (⊥ : EReal) := by
  rw [v13_read, v4_apply]
  refine if_congr Iff.rfl ?_ rfl
  rw [EReal.coe_mul, score, coe_sum]
  refine congrArg (· * _) (Finset.sum_congr rfl fun d _ => ?_)
  rw [hQ, hK, EReal.coe_mul]

theorem v16_real (s : Fin 2048) : ∃ m : ℝ, val_main_v16 x0 x1 (ix3 b h s) = (m : EReal) := by
  rw [v16_read, max_eq_right bot_le]
  refine fold_max_real _ _ (fun t _ => ?_) ⟨s, Finset.mem_univ _, ?_⟩
  · rw [v13_eq x0 x1 b h Q K hQ hK]
    split
    · exact EReal.coe_ne_top _
    · exact bot_ne_top
  · rw [v13_eq x0 x1 b h Q K hQ hK, if_pos le_rfl]
    exact EReal.coe_ne_bot _

/-- The reference's result is the attention of its head. -/
theorem v28_attn (s : Fin 2048) (d : Fin 64) (R : Fin 512) (C : Fin 32768) (hR : R.val = 64 * h.val + d.val) (hC : C.val = 2048 * b.val + s.val) :
    val_main_v28 x0 x1 x2 (ix2 R C) = attn Q K (fun t d => x2 (ix4 b t h d)) s d := by
  obtain ⟨m, hm⟩ := v16_real x0 x1 b h Q K hQ hK s
  have e : ∀ t, (val_main_v20 x0 x1 (ix4 b h s t) : EReal) = ((wgt Q K s t * Real.exp (-m) : ℝ) : EReal) := by
    intro t
    rw [v20_read, hm, v13_eq x0 x1 b h Q K hQ hK]
    unfold wgt
    by_cases c : t ≤ s
    · rw [if_pos c, if_pos c, exp_shift]
    · rw [if_neg c, if_neg c, exp_bot_shift, zero_mul, EReal.coe_zero]
  rw [v28_read x0 x1 x2 h d b s R C hR hC, ← attn_div Q K _ s d (Real.exp (-m)) (Real.exp_pos _)]
  refine Finset.sum_congr rfl fun t _ => congrArg (· * _) ?_
  rw [v24_read, Finset.sum_congr rfl fun t _ => e t, ← coe_sum, ← Finset.sum_mul, e]
end

end Cert.Mla.Ref

end
-- ==== Proof.MlaUnit.lean ====
/- One unit of the causal attention kernel: the output of one block of queries of one head, from the key blocks, the scaled
   query columns and the value rows over rows of ones. -/
module

public import proofs.«01_k».proof.Proof.Gen.Kernel3Ideal.Value
public import proofs.«01_k».proof.Proof.MobaKer
public import Idealize.ShloMosaic.Lib.Pointwise
public import Idealize.ShloMosaic.Lib.WordCmp

@[expose] public section

noncomputable section

namespace Cert.Mla

open Cert.Moba (col sle_iff)
open Idealize.ShloMosaic Idealize.SL.Sem Cert.Kernel3Ideal Cert.Kernel3Ideal.Gen

/-- A block of 256 columns fits into the 2048 columns of the values. -/
theorem fitsV (j : ℕ) : S80x2048.Slices ![0, 256 * (j % 8)] S80x256 :=
  ⟨rfl, fun a => match a with
    | ⟨0, _⟩ => by show 0 + 80 ≤ 80; omega
    | ⟨1, _⟩ => by show 256 * (j % 8) + 256 ≤ 2048; omega⟩

/-- A block of 256 columns fits into the 2048 columns of the queries. -/
theorem fitsQ (i : ℕ) : S128x2048.Slices ![0, 256 * (i % 8)] S128x256 :=
  ⟨rfl, fun a => match a with
    | ⟨0, _⟩ => by show 0 + 128 ≤ 128; omega
    | ⟨1, _⟩ => by show 256 * (i % 8) + 256 ≤ 2048; omega⟩

variable (qw : FVec Ideal S128x2048 .bf16) (va : FVec Ideal S80x2048 .bf16) (kx : ℕ → FVec Ideal S256x128 .bf16)

/-- The scores of key block `j` against query block `i`. -/
def sb (i j : ℕ) : FVec Ideal S256x256 .f32 :=
  matmul dot_S256x128_S128x256_S256x256_1_0_0_1_n_n none (shapeCast S256x128 (kx j) shapeCasts_S256x128_S256x128) (extractStridedSlice S128x256 ![0, 256 * (i % 8)] qw (fitsQ i))
    (constant S256x256 .f32 0x00000000#32)

/-- The weights of a block of the past. -/
def prob (s : FVec Ideal S256x256 .f32) : FVec Ideal S256x256 .bf16 := truncf .bf16 (exp2 s) bitsLt_bf16_f32

/-- The weights of the queries' own block, masked. -/
def probD (s : FVec Ideal S256x256 .f32) : FVec Ideal S256x256 .bf16 :=
  truncf .bf16 (exp2 (select (cmpi .sle (iota .tc S256x256 32 [0] iota_S256x256_d0_w32) (iota .tc S256x256 32 [1] iota_S256x256_d1_w32)) s
    (broadcast S256x256 (Named.named κ "mask" 0xF149F2CA#32 : Ideal .f32)))) bitsLt_bf16_f32

/-- The values of block `j` weighted. -/
def pt (j : ℕ) (p : FVec Ideal S256x256 .bf16) : FVec Ideal S80x256 .f32 :=
  matmul dot_S80x256_S256x256_S80x256_1_0_0_1_n_n none (extractStridedSlice S80x256 ![0, 256 * (j % 8)] va (fitsV j)) p
    (constant S80x256 .f32 0x00000000#32)

/-- The blocks `0 … n` of the past of query block `i`, summed from the left. -/
def before (i : ℕ) : ℕ → FVec Ideal S80x256 .f32
  | 0 => pt va 0 (prob (sb qw kx i 0))
  | n + 1 => addf (before i n) (pt va (n + 1) (prob (sb qw kx i (n + 1))))

/-- All the blocks of query block `i`. -/
def acc : ℕ → FVec Ideal S80x256 .f32
  | 0 => pt va 0 (probD (sb qw kx 0 0))
  | n + 1 => addf (before qw va kx (n + 1) n) (pt va (n + 1) (probD (sb qw kx (n + 1) (n + 1))))

/-- The weighted values over the sum of the weights, which the row of ones holds. -/
def fin (a : FVec Ideal S80x256 .f32) : FVec Ideal S64x256 .bf16 :=
  truncf .bf16 (divf (extractStridedSlice S64x256 ![0, 0] a slices_S80x256_o0_0_S64x256)
    (broadcastTo S64x256 (extractStridedSlice S1x256 ![64, 0] a slices_S80x256_o64_0_S1x256) broadcasts_S1x256_S64x256)) bitsLt_bf16_f32

/-- The unit. -/
def unit (i : ℕ) : FVec Ideal S64x256 .bf16 := fin (acc qw va kx i)

/-- A score. -/
def sc (i j : ℕ) (r s : Fin 256) : EReal := ∑ l : Fin 128, kx j (ix2 r l) * qw (ix2 l (col i s))

theorem sb_apply (i j : ℕ) (r s : Fin 256) : sb qw kx i j (ix2 r s) = sc qw kx i j r s := by
  unfold sb sc
  pointwise
  rfl

theorem pt_apply (j : ℕ) (p : FVec Ideal S256x256 .bf16) (d : Fin 80) (s : Fin 256) :
    pt va j p (ix2 d s) = ∑ r : Fin 256, va (ix2 d (col j r)) * p (ix2 r s) := by
  unfold pt
  pointwise
  rfl

theorem mask_eq : (Named.named κ "mask" 0xF149F2CA#32 : Ideal .f32) = (⊥ : EReal) :=
  IdealRules.named_const.ideal_named_scalar _ _ _ _ rfl

theorem probD_apply (x : FVec Ideal S256x256 .f32) (r s : Fin 256) :
    probD x (ix2 r s) = Ideal.exp2 (if r.val ≤ s.val then x (ix2 r s) else ⊥) := by
  unfold probD
  pointwise
  rw [mask_eq]
  show Ideal.exp2 _ = _
  congr 1
  unfold Scalar.select
  exact if_congr (sle_iff r s) rfl rfl

theorem prob_apply (x : FVec Ideal S256x256 .f32) (r s : Fin 256) : prob x (ix2 r s) = Ideal.exp2 (x (ix2 r s)) := by
  unfold prob
  pointwise
  rfl

/-- The weight of key `r` of block `j` for query `s` of block `i`. -/
def wt (i j : ℕ) (r s : Fin 256) : EReal := Ideal.exp2 (if j < i ∨ r.val ≤ s.val then sc qw kx i j r s else ⊥)

theorem before_apply (i n : ℕ) (hn : n < i) (d : Fin 80) (s : Fin 256) :
    before qw va kx i n (ix2 d s) = ∑ j ∈ Finset.range (n + 1), ∑ r : Fin 256, va (ix2 d (col j r)) * wt qw kx i j r s := by
  induction n with
  | zero =>
    rw [Finset.sum_range_one]
    show pt va 0 _ _ = _
    rw [pt_apply]
    refine Finset.sum_congr rfl fun r _ => ?_
    rw [prob_apply, sb_apply, wt, if_pos (Or.inl hn)]
  | succ n ih =>
    rw [Finset.sum_range_succ, ← ih (by omega)]
    show before qw va kx i n (ix2 d s) + pt va (n + 1) _ (ix2 d s) = _
    rw [pt_apply]
    congr 1
    refine Finset.sum_congr rfl fun r _ => ?_
    rw [prob_apply, sb_apply, wt, if_pos (Or.inl hn)]

theorem acc_apply (i : ℕ) (d : Fin 80) (s : Fin 256) :
    acc qw va kx i (ix2 d s) = ∑ j ∈ Finset.range (i + 1), ∑ r : Fin 256, va (ix2 d (col j r)) * wt qw kx i j r s := by
  have last : pt va i (probD (sb qw kx i i)) (ix2 d s) = ∑ r : Fin 256, va (ix2 d (col i r)) * wt qw kx i i r s := by
    rw [pt_apply]
    refine Finset.sum_congr rfl fun r _ => ?_
    rw [probD_apply, sb_apply, wt]
    congr 2
    simp only [lt_irrefl, false_or]
  cases i with
  | zero => rw [Finset.sum_range_one]; exact last
  | succ n =>
    rw [Finset.sum_range_succ, ← before_apply qw va kx (n + 1) n (by omega)]
    show before qw va kx (n + 1) n (ix2 d s) + pt va (n + 1) _ (ix2 d s) = _
    rw [last]

/-- A unit at an index. -/
theorem unit_apply (i : ℕ) (d : Fin 64) (s : Fin 256) :
    unit qw va kx i (ix2 d s) = Ideal.div
      (∑ j ∈ Finset.range (i + 1), ∑ r : Fin 256, va (ix2 ⟨d.val, by omega⟩ (col j r)) * wt qw kx i j r s)
      (∑ j ∈ Finset.range (i + 1), ∑ r : Fin 256, va (ix2 ⟨64, by omega⟩ (col j r)) * wt qw kx i j r s) := by
  rw [← acc_apply, ← acc_apply]
  unfold unit fin
  pointwise

end Cert.Mla

end
-- ==== Proof.MlaPieces.lean ====
/- What the causal attention kernel stores at a point: sixteen units, over the blocks that the point reads. -/
module

public import proofs.«01_k».proof.Proof.MlaUnit
public import Idealize.ShloMosaic.Lib.Pipeline.ValueKit.Tiles

@[expose] public section

noncomputable section

namespace Cert.Mla

open Cert.Moba (col)
open Idealize.ShloMosaic Idealize.SL.Sem Cert.Kernel3Ideal Cert.Kernel3Ideal.Gen

theorem fitsK (h j : ℕ) : ∀ a : Fin 2, (![256 * (j % 8), 128 * (h % 2)] : Fin 2 → ℕ) a + S256x128.size a ≤ S2048x256.size a :=
  fun a => match a with
    | ⟨0, _⟩ => by show 256 * (j % 8) + 256 ≤ 2048; omega
    | ⟨1, _⟩ => by show 128 * (h % 2) + 128 ≤ 256; omega

theorem fitsR (h : ℕ) : ∀ a : Fin 2, (![64 * (h % 2), 0] : Fin 2 → ℕ) a + S64x2048.size a ≤ S128x2048.size a :=
  fun a => match a with
    | ⟨0, _⟩ => by show 64 * (h % 2) + 64 ≤ 128; omega
    | ⟨1, _⟩ => by show 0 + 2048 ≤ 2048; omega

theorem fitsQ' (h : ℕ) : ∀ a : Fin 2, (![128 * (h % 2), 0] : Fin 2 → ℕ) a + S128x2048.size a ≤ S256x2048.size a :=
  fun a => match a with
    | ⟨0, _⟩ => by show 128 * (h % 2) + 128 ≤ 256; omega
    | ⟨1, _⟩ => by show 0 + 2048 ≤ 2048; omega

variable (x0 : Vec Ideal S256x2048 .f32) (x1 : Vec Ideal S2048x256 .bf16) (x2 : Vec Ideal S128x2048 .bf16)

/-- Block `j` of the keys of head `h` of the two. -/
def ldK (h j : ℕ) : FVec Ideal S256x128 .bf16 := View.ld x1 (Rect.unit (s := S2048x256) ![256 * (j % 8), 128 * (h % 2)] S256x128.size (fitsK h j))

/-- The queries of head `h`. -/
def ldQ (h : ℕ) : FVec Ideal S128x2048 .f32 := View.ld x0 (Rect.unit (s := S256x2048) ![128 * (h % 2), 0] S128x2048.size (fitsQ' h))

/-- The values of head `h`. -/
def ldV (h : ℕ) : FVec Ideal S64x2048 .bf16 := View.ld x2 (Rect.unit (s := S128x2048) ![64 * (h % 2), 0] S64x2048.size (fitsR h))

/-- The queries of head `h`, scaled. -/
def qwOf (h : ℕ) : FVec Ideal S128x2048 .bf16 :=
  match h with
  | 0 => k0_pay9 (ldQ x0 0)
  | _ + 1 => k0_pay12 (k0_pay10 (ldQ x0 1)) k0_pay11

/-- The values of head `h` over rows of ones. -/
def vaOf (h : ℕ) : FVec Ideal S80x2048 .bf16 :=
  match h with
  | 0 => k0_pay7 (ldV x2 0)
  | _ + 1 => k0_pay8 (ldV x2 1)

/-- What the point leaves at an index of its output block. -/
def outAt (y : S128x2048.Idx) : Ideal .bf16 :=
  unit (qwOf x0 ((y 0).val / 64)) (vaOf x2 ((y 0).val / 64)) (ldK x1 ((y 0).val / 64)) ((y 1).val / 256)
    (ix2 ⟨(y 0).val % 64, Nat.mod_lt _ (by omega)⟩ ⟨(y 1).val % 256, Nat.mod_lt _ (by omega)⟩)

theorem tile (y : S128x2048.Idx) (h i o0 o1 : ℕ) (e0 : o0 = 64 * h) (e1 : o1 = 256 * i) :
    View.TileAt (Val := Elt Ideal) (e := .bf16) (S := S128x2048) y ![o0, o1] ![64, 256] (unit (qwOf x0 h) (vaOf x2 h) (ldK x1 h) i) (outAt x0 x1 x2 y) := by
  intro x hx
  have h0 : (y 0).val = o0 + (x 0).val := hx 0
  have h1 : (y 1).val = o1 + (x 1).val := hx 1
  have b0 : (x 0).val < 64 := (x 0).isLt
  have b1 : (x 1).val < 256 := (x 1).isLt
  subst e0 e1
  have r0 : (y 0).val / 64 = h := by omega
  have r1 : (y 1).val / 256 = i := by omega
  unfold outAt
  rw [r0, r1]
  congr 1
  funext a
  apply Fin.ext
  match a with
  | ⟨0, _⟩ => show (x 0).val = (y 0).val % 64; omega
  | ⟨1, _⟩ => show (x 1).val = (y 1).val % 256; omega

theorem out_eq (x3 : Vec Ideal S16x1024 .f32) (x4 x5 : Vec Ideal S16x2816 .f32) (x6 : Vec Ideal S64x1024 .f32) (y : S128x2048.Idx) :
    out0_7 x0 x1 x2 x3 x4 x5 x6 y = outAt x0 x1 x2 y := by
  unfold_out out0_7
  refine View.canon_eq_of_allAt _ _ _ (cover0_7 _ _ _ _ _ _ _ _ _ _ _ _ _ _ _ _ y) ?_
  have T := tile x0 x1 x2 y
  refine View.allAt_cons_unit _ _ _ _ _ (by exact T 1 0 64 0 rfl rfl) ?_
  refine View.allAt_cons_unit _ _ _ _ _ (by exact T 1 1 64 256 rfl rfl) ?_
  refine View.allAt_cons_unit _ _ _ _ _ (by exact T 1 2 64 512 rfl rfl) ?_
  refine View.allAt_cons_unit _ _ _ _ _ (by exact T 1 3 64 768 rfl rfl) ?_
  refine View.allAt_cons_unit _ _ _ _ _ (by exact T 1 4 64 1024 rfl rfl) ?_
  refine View.allAt_cons_unit _ _ _ _ _ (by exact T 1 5 64 1280 rfl rfl) ?_
  refine View.allAt_cons_unit _ _ _ _ _ (by exact T 1 6 64 1536 rfl rfl) ?_
  refine View.allAt_cons_unit _ _ _ _ _ (by exact T 1 7 64 1792 rfl rfl) ?_
  refine View.allAt_cons_unit _ _ _ _ _ (by exact T 0 7 0 1792 rfl rfl) ?_
  refine View.allAt_cons_unit _ _ _ _ _ (by exact T 0 6 0 1536 rfl rfl) ?_
  refine View.allAt_cons_unit _ _ _ _ _ (by exact T 0 5 0 1280 rfl rfl) ?_
  refine View.allAt_cons_unit _ _ _ _ _ (by exact T 0 4 0 1024 rfl rfl) ?_
  refine View.allAt_cons_unit _ _ _ _ _ (by exact T 0 3 0 768 rfl rfl) ?_
  refine View.allAt_cons_unit _ _ _ _ _ (by exact T 0 2 0 512 rfl rfl) ?_
  refine View.allAt_cons_unit _ _ _ _ _ (by exact T 0 1 0 256 rfl rfl) ?_
  refine View.allAt_cons_unit _ _ _ _ _ (by exact T 0 0 0 0 rfl rfl) ?_
  exact View.allAt_nil _ _

theorem ldK_apply (h j : ℕ) (hh : h < 2) (r : Fin 256) (l : Fin 128) :
    ldK x1 h j (ix2 r l) = x1 (ix2 (col j r) ⟨128 * h + l.val, by omega⟩) := by
  unfold ldK
  refine congrArg x1 ?_
  funext a
  apply Fin.ext
  match a with
  | ⟨0, _⟩ => show 256 * (j % 8) + 1 * r.val = 256 * (j % 8) + r.val; omega
  | ⟨1, _⟩ => show 128 * (h % 2) + 1 * l.val = 128 * h + l.val; omega

theorem ldQ_apply (h : ℕ) (hh : h < 2) (l : Fin 128) (s : Fin 2048) : ldQ x0 h (ix2 l s) = x0 (ix2 ⟨128 * h + l.val, by omega⟩ s) := by
  unfold ldQ
  refine congrArg x0 ?_
  funext a
  apply Fin.ext
  match a with
  | ⟨0, _⟩ => show 128 * (h % 2) + 1 * l.val = 128 * h + l.val; omega
  | ⟨1, _⟩ => show 0 + 1 * s.val = s.val; omega

theorem ldV_apply (h : ℕ) (hh : h < 2) (d : Fin 64) (s : Fin 2048) : ldV x2 h (ix2 d s) = x2 (ix2 ⟨64 * h + d.val, by omega⟩ s) := by
  unfold ldV
  refine congrArg x2 ?_
  funext a
  apply Fin.ext
  match a with
  | ⟨0, _⟩ => show 64 * (h % 2) + 1 * d.val = 64 * h + d.val; omega
  | ⟨1, _⟩ => show 0 + 1 * s.val = s.val; omega

theorem va_apply {h : ℕ} (hh : h < 2) (d : Fin 80) (s : Fin 2048) :
    vaOf x2 h (ix2 d s) = if hd : d.val < 64 then x2 (ix2 ⟨64 * h + d.val, by omega⟩ s) else 1 := by
  have e : vaOf x2 h (ix2 d s) = if hd : d.val < 64 then ldV x2 h (ix2 ⟨d.val, hd⟩ s) else 1 := by
    interval_cases h
    · show k0_pay7 (F := Ideal) (ldV x2 0) (ix2 d s) = _
      unfold k0_pay7 k0_pay6
      pointwise
    · show k0_pay8 (F := Ideal) (ldV x2 1) (ix2 d s) = _
      unfold k0_pay8 k0_pay6
      pointwise
  rw [e]
  by_cases hd : d.val < 64
  · rw [dif_pos hd, dif_pos hd, ldV_apply x2 h hh]
  · rw [dif_neg hd, dif_neg hd]

/-- The scale of the scores: the reference's scale over the logarithm of two. -/
def csc : ℝ := 3424635 / 33554432 * (Real.log 2)⁻¹

theorem scale_eq : (Named.named κ "scale" 0x3E16C740#32 : Ideal .f32) = ((csc : ℝ) : EReal) :=
  IdealRules.named_const.ideal_named_scalar _ _ _ _ rfl

theorem qw_apply {h : ℕ} (hh : h < 2) (l : Fin 128) (s : Fin 2048) :
    qwOf x0 h (ix2 l s) = x0 (ix2 ⟨128 * h + l.val, by omega⟩ s) * ((csc : ℝ) : EReal) := by
  rw [← ldQ_apply x0 h hh]
  interval_cases h
  · show k0_pay9 (F := Ideal) (ldQ x0 0) (ix2 l s) = _
    unfold k0_pay9
    pointwise
    rw [scale_eq]
  · show k0_pay12 (F := Ideal) (k0_pay10 (ldQ x0 1)) k0_pay11 (ix2 l s) = _
    unfold k0_pay12 k0_pay11 k0_pay10
    pointwise
    rw [scale_eq]

end Cert.Mla

end
-- ==== Proof.MlaKer.lean ====
/- What the causal attention kernel leaves at an index of its output block is the attention of its head. -/
module

public import proofs.«01_k».proof.Proof.MlaPieces
public import proofs.«01_k».proof.Proof.MlaMath

@[expose] public section

noncomputable section

namespace Cert.Mla

open Cert.Moba (col coe_sum sum_blocks)
open Idealize.ShloMosaic Idealize.SL.Sem Cert.Kernel3Ideal Cert.Kernel3Ideal.Gen
open scoped Classical

theorem exp2_eq (x : ℝ) : Ideal.exp2 ((x * csc : ℝ) : EReal) = ((Real.exp (x * c0) : ℝ) : EReal) := by
  rw [Ideal.exp2_coe]
  congr 1
  show (2 : ℝ) ^ (x * csc) = _
  rw [Real.rpow_def_of_pos (by norm_num)]
  congr 1
  unfold csc c0
  have := (Real.log_pos (x := 2) (by norm_num)).ne'
  field_simp

section
variable (x0 : Vec Ideal S256x2048 .f32) (x1 : Vec Ideal S2048x256 .bf16) (x2 : Vec Ideal S128x2048 .bf16) {h : ℕ} (hh : h < 2)
  (Q K : Fin 2048 → Fin 96 → ℝ) (hq : ∀ (l : Fin 128) s, x0 (ix2 ⟨128 * h + l.val, by omega⟩ s) = ((pad (Q s) l : ℝ) : EReal))
  (hk : ∀ t (l : Fin 128), x1 (ix2 t ⟨128 * h + l.val, by omega⟩) = ((pad (K t) l : ℝ) : EReal))
include hh hq hk

theorem sc_eq (i j : ℕ) (r s : Fin 256) : sc (qwOf x0 h) (ldK x1 h) i j r s = ((score Q K (col i s) (col j r) * csc : ℝ) : EReal) := by
  unfold sc score
  rw [← sum_pad, Finset.sum_mul, coe_sum]
  refine Finset.sum_congr rfl fun l _ => ?_
  rw [ldK_apply x1 h j hh, qw_apply x0 hh, hq, hk, ← EReal.coe_mul, ← EReal.coe_mul]
  congr 1
  ring

/-- The kernel's weight of a key of a block that is not after the query's. -/
theorem wt_eq (i j : ℕ) (hi : i < 8) (hj : j ≤ i) (r s : Fin 256) :
    wt (qwOf x0 h) (ldK x1 h) i j r s = ((wgt Q K (col i s) (col j r) : ℝ) : EReal) := by
  unfold wt wgt
  have e : (j < i ∨ r.val ≤ s.val) ↔ col j r ≤ col i s := by
    show _ ↔ 256 * (j % 8) + r.val ≤ 256 * (i % 8) + s.val
    omega
  rw [sc_eq x0 x1 hh Q K hq hk]
  by_cases c : col j r ≤ col i s
  · rw [if_pos (e.mpr c), if_pos c, exp2_eq]
  · rw [if_neg (fun x => c (e.mp x)), if_neg c]
    rfl

/-- A unit's weighted sum is the sum over all the keys. -/
theorem sum_wt (f : Fin 2048 → EReal) (i : ℕ) (hi : i < 8) (s : Fin 256) :
    ∑ j ∈ Finset.range (i + 1), ∑ r : Fin 256, f (col j r) * wt (qwOf x0 h) (ldK x1 h) i j r s
      = ∑ t, f t * ((wgt Q K (col i s) t : ℝ) : EReal) := by
  rw [sum_blocks]
  refine (Finset.sum_subset (Finset.range_mono (show i + 1 ≤ 8 by omega)) ?_).symm.trans ?_ |>.symm
  · intro j hj hn
    rw [Finset.mem_range] at hj hn
    refine Finset.sum_eq_zero fun r _ => ?_
    have z : wgt Q K (col i s) (col j r) = 0 := if_neg (by
      show ¬ 256 * (j % 8) + r.val ≤ 256 * (i % 8) + s.val
      omega)
    rw [z, EReal.coe_zero, mul_zero]
  · refine Finset.sum_congr rfl fun j hj => Finset.sum_congr rfl fun r _ => ?_
    rw [Finset.mem_range] at hj
    rw [wt_eq x0 x1 hh Q K hq hk i j hi (by omega)]

/-- A unit of the kernel is the attention. -/
theorem unit_eq (i : ℕ) (hi : i < 8) (d : Fin 64) (s : Fin 256) :
    unit (qwOf x0 h) (vaOf x2 h) (ldK x1 h) i (ix2 d s)
      = attn Q K (fun t d => x2 (ix2 ⟨64 * h + d.val, by omega⟩ t)) (col i s) d := by
  rw [unit_apply]
  unfold attn
  congr 1
  · rw [← sum_wt x0 x1 hh Q K hq hk _ i hi s]
    refine Finset.sum_congr rfl fun j _ => Finset.sum_congr rfl fun r _ => ?_
    rw [va_apply x2 hh, dif_pos (show (⟨d.val, by omega⟩ : Fin 80).val < 64 from d.isLt)]
  · rw [coe_sum]
    refine (Finset.sum_congr rfl fun j _ => Finset.sum_congr rfl fun r _ => ?_).trans
      ((sum_wt x0 x1 hh Q K hq hk (fun _ => 1) i hi s).trans (Finset.sum_congr rfl fun t _ => one_mul _))
    rw [va_apply x2 hh]
    rfl
end

/-- What a point leaves in its output block is the attention of the block's two heads. -/
theorem left_eq (x0 : Vec Ideal S256x2048 .f32) (x1 : Vec Ideal S2048x256 .bf16) (x2 : Vec Ideal S128x2048 .bf16) (y0 : Fin 128) (s : Fin 2048)
    (Q K : Fin 2048 → Fin 96 → ℝ) (hq : ∀ (l : Fin 128) s, x0 (ix2 ⟨128 * (y0.val / 64) + l.val, by omega⟩ s) = ((pad (Q s) l : ℝ) : EReal))
    (hk : ∀ t (l : Fin 128), x1 (ix2 t ⟨128 * (y0.val / 64) + l.val, by omega⟩) = ((pad (K t) l : ℝ) : EReal)) :
    outAt x0 x1 x2 (ix2 y0 s) = attn Q K (fun t d => x2 (ix2 ⟨64 * (y0.val / 64) + d.val, by omega⟩ t)) s ⟨y0.val % 64, Nat.mod_lt _ (by omega)⟩ := by
  have e : s = col (s.val / 256) ⟨s.val % 256, Nat.mod_lt _ (by omega)⟩ :=
    Fin.ext (by show s.val = 256 * (s.val / 256 % 8) + s.val % 256; omega)
  unfold outAt
  refine (unit_eq x0 x1 x2 (h := y0.val / 64) (by omega) Q K hq hk (s.val / 256) (by omega) _ _).trans ?_
  exact (congrArg (fun x => attn Q K (fun t d => x2 (ix2 ⟨64 * (y0.val / 64) + d.val, by omega⟩ t)) x ⟨y0.val % 64, Nat.mod_lt _ (by omega)⟩) e).symm

end Cert.Mla

end
-- ==== Proof.MlaBlk.lean ====
/- The blocks that the causal attention kernel reads, as entries of the arguments. -/
module

public import proofs.«01_k».proof.Proof.MlaKer

@[expose] public section

set_option maxRecDepth 16384

noncomputable section

namespace Cert.Mla

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ)

/-- The queries. -/
abbrev argQ (c : Dev nD) : FVec Ideal S16x2048x8x96 .f32 := m ((c : Thread nD τ).loc main_arg0)
/-- The keys. -/
abbrev argK (c : Dev nD) : FVec Ideal S16x2048x8x96 .f32 := m ((c : Thread nD τ).loc main_arg1)
/-- The values. -/
abbrev argV (c : Dev nD) : FVec Ideal S16x2048x8x64 .f32 := m ((c : Thread nD τ).loc main_arg2)

/-- Point `t` works on the pair of heads `t % 4` of sequence `t / 4`. -/
theorem widx : ∀ t : Fin grid0.N, win0_0.index t 0 = t.val % 4 ∧ win0_0.index t 1 = t.val / 4 ∧ win0_1.index t 0 = t.val / 4
    ∧ win0_1.index t 1 = t.val % 4 ∧ win0_2.index t 0 = t.val % 4 ∧ win0_2.index t 1 = t.val / 4 ∧ win0_7.index t 0 = t.val % 4
    ∧ win0_7.index t 1 = t.val / 4 :=
  by decide +kernel

/-- The sequence of point `t`. -/
abbrev sq (t : Fin grid0.N) : Fin 16 := ⟨t.val / 4, by have h : t.val < 64 := N_0 ▸ t.isLt; omega⟩
/-- Head `h` of point `t`'s two. -/
abbrev hd (t : Fin grid0.N) (h : Fin 2) : Fin 8 := ⟨2 * (t.val % 4) + h.val, by omega⟩
/-- The token of point `t`'s block in the whole array's tokens. -/
abbrev tok (t : Fin grid0.N) (s : Fin 2048) : Fin 32768 := ⟨t.val / 4 * 2048 + s.val, by
  have h : t.val < 64 := N_0 ▸ t.isLt; omega⟩
/-- The lane of point `t`'s block of queries in the lanes of all the heads. -/
abbrev lane (t : Fin grid0.N) (h : Fin 2) (l : Fin 128) : Fin 1024 := ⟨t.val % 4 * 256 + (128 * h.val + l.val), by omega⟩
/-- The lane of point `t`'s block of values in the lanes of all the heads. -/
abbrev vlane (t : Fin grid0.N) (y : Fin 128) : Fin 512 := ⟨t.val % 4 * 128 + y.val, by omega⟩

/-- The position in the sequences of a lane and a token. -/
theorem unflat (t : Fin grid0.N) (h : Fin 2) (l : Fin 128) (s : Fin 2048) {α : Type*} (A : (⟨4, ![16, 2048, 8, 128]⟩ : Shape).Idx → α)
    (b : Fin 16) (s' : Fin 2048) (h' : Fin 8) (d : Fin 128) (hb : b.val = (tok t s).val / 2048) (hs : s'.val = (tok t s).val % 2048)
    (hh : h'.val = (lane t h l).val / 128) (hd' : d.val = (lane t h l).val % 128) : A (ix4 b s' h' d) = A (ix4 (sq t) s (hd t h) l) := by
  have e1 : b = sq t := Fin.ext (by rw [hb]; show (t.val / 4 * 2048 + s.val) / 2048 = t.val / 4; omega)
  have e2 : s' = s := Fin.ext (by rw [hs]; show (t.val / 4 * 2048 + s.val) % 2048 = s.val; omega)
  have e3 : h' = hd t h := Fin.ext (by rw [hh]; show (t.val % 4 * 256 + (128 * h.val + l.val)) / 128 = 2 * (t.val % 4) + h.val; omega)
  have e4 : d = l := Fin.ext (by rw [hd']; show (t.val % 4 * 256 + (128 * h.val + l.val)) % 128 = l.val; omega)
  rw [e1, e2, e3, e4]

set_option maxHeartbeats 1600000 in
/-- The array of the queries' window: padded to 128 lanes a head, the heads' lanes side by side, transposed. -/
theorem V_v2 (c : Dev nD) : (V m c main_v2 : FVec Ideal S1024x32768 .f32) = transpose S1024x32768 [1, 0] (shapeCast S32768x1024
    (Idealize.ShloMosaic.pad S16x2048x8x128 ![0, 0, 0, 0] ![0, 0, 0, 32] ![0, 0, 0, 0] (argQ m c) (sitofp (F := Ideal) .f32 (constantI S_ 32 0#32))
      pads_S16x2048x8x96_S16x2048x8x128_000_000_000_0320 h_S_) shapeCasts_S16x2048x8x128_S32768x1024) transposes_S32768x1024_S1024x32768_1_0 := by
  show StableHlo.after (List.flatten [hostOps0, hostOps0_1, hostOps0_2, hostOps0_3, hostOps0_4]) (fun b => m (c, b)) main_v2 = _
  simp only [hostOps0, hostOps0_1, hostOps0_2, hostOps0_3, hostOps0_4, List.flatten_cons, List.flatten_nil, List.append_nil, List.cons_append,
    List.nil_append]
  entry_read
  rfl

/-- The padded array at a lane: the entry where there is one, zero beyond. -/
theorem pad_at (x : FVec Ideal S16x2048x8x96 .f32) (b : Fin 16) (s : Fin 2048) (h : Fin 8) (l : Fin 128) :
    Idealize.ShloMosaic.pad S16x2048x8x128 ![0, 0, 0, 0] ![0, 0, 0, 32] ![0, 0, 0, 0] x (sitofp (F := Ideal) .f32 (constantI S_ 32 0#32))
      pads_S16x2048x8x96_S16x2048x8x128_000_000_000_0320 h_S_ (ix4 b s h l) = if hl : l.val < 96 then x (ix4 b s h ⟨l.val, hl⟩) else (0 : EReal) := by
  have hz : (FloatOps.sitofp (F := Ideal) FTy.f32 (0#32 : BitVec 32) : EReal) = 0 := by
    show (((((0#32 : BitVec 32).toInt : ℤ) : ℝ)) : EReal) = 0
    norm_num
  pointwise
  rw [hz]

/-- The position in the sequences of a lane of the values and a token. -/
theorem unflatv (t : Fin grid0.N) (y : Fin 128) (s : Fin 2048) {α : Type*} (A : (⟨4, ![16, 2048, 8, 64]⟩ : Shape).Idx → α)
    (b : Fin 16) (s' : Fin 2048) (h' : Fin 8) (d : Fin 64) (hb : b.val = (tok t s).val / 2048) (hs : s'.val = (tok t s).val % 2048)
    (hh : h'.val = (vlane t y).val / 64) (hd' : d.val = (vlane t y).val % 64) :
    A (ix4 b s' h' d) = A (ix4 (sq t) s ⟨2 * (t.val % 4) + y.val / 64, by omega⟩ ⟨y.val % 64, by omega⟩) := by
  have e1 : b = sq t := Fin.ext (by rw [hb]; show (t.val / 4 * 2048 + s.val) / 2048 = t.val / 4; omega)
  have e2 : s' = s := Fin.ext (by rw [hs]; show (t.val / 4 * 2048 + s.val) % 2048 = s.val; omega)
  have e3 : h' = ⟨2 * (t.val % 4) + y.val / 64, by omega⟩ := Fin.ext (by rw [hh]; show (t.val % 4 * 128 + y.val) / 64 = 2 * (t.val % 4) + y.val / 64; omega)
  have e4 : d = ⟨y.val % 64, by omega⟩ := Fin.ext (by rw [hd']; show (t.val % 4 * 128 + y.val) % 64 = y.val % 64; omega)
  rw [e1, e2, e3, e4]

set_option maxHeartbeats 1600000 in
/-- The array of the keys' window: padded to 128 lanes a head, the heads' lanes side by side. -/
theorem V_v5 (c : Dev nD) : (V m c main_v5 : FVec Ideal S32768x1024 .bf16) = truncf .bf16 (shapeCast S32768x1024
    (Idealize.ShloMosaic.pad S16x2048x8x128 ![0, 0, 0, 0] ![0, 0, 0, 32] ![0, 0, 0, 0] (argK m c) (sitofp (F := Ideal) .f32 (constantI S_ 32 0#32))
      pads_S16x2048x8x96_S16x2048x8x128_000_000_000_0320 h_S_) shapeCasts_S16x2048x8x128_S32768x1024) bitsLt_bf16_f32 := by
  show StableHlo.after (List.flatten [hostOps0, hostOps0_1, hostOps0_2, hostOps0_3, hostOps0_4]) (fun b => m (c, b)) main_v5 = _
  simp only [hostOps0, hostOps0_1, hostOps0_2, hostOps0_3, hostOps0_4, List.flatten_cons, List.flatten_nil, List.append_nil, List.cons_append,
    List.nil_append]
  entry_read
  rfl

set_option maxHeartbeats 1600000 in
/-- The array of the values' window: the heads' lanes side by side, transposed. -/
theorem V_v8 (c : Dev nD) : (V m c main_v8 : FVec Ideal S512x32768 .bf16) = truncf .bf16 (transpose S512x32768 [1, 0]
    (shapeCast S32768x512 (argV m c) shapeCasts_S16x2048x8x64_S32768x512) transposes_S32768x512_S512x32768_1_0) bitsLt_bf16_f32 := by
  show StableHlo.after (List.flatten [hostOps0, hostOps0_1, hostOps0_2, hostOps0_3, hostOps0_4]) (fun b => m (c, b)) main_v8 = _
  simp only [hostOps0, hostOps0_1, hostOps0_2, hostOps0_3, hostOps0_4, List.flatten_cons, List.flatten_nil, List.append_nil, List.cons_append,
    List.nil_append]
  entry_read
  rfl

/-- The block of queries that point `t` reads. -/
theorem blkq (c : Dev nD) (t : Fin cfg0.N) (h : Fin 2) (l : Fin 128) (s : Fin 2048) :
    iblk m c 0 t (ix2 ⟨128 * h.val + l.val, by omega⟩ s) = if hl : l.val < 96 then argQ m c (ix4 (sq t) s (hd t h) ⟨l.val, hl⟩) else (0 : EReal) := by
  unfold iblk
  rw [View.read_apply]
  have e : ((cfg0.win 0).blk t).view.emb (ix2 ⟨128 * h.val + l.val, by omega⟩ s) = ix2 (lane t h l) (tok t s) := by
    funext a
    apply Fin.ext
    obtain ⟨h0, h1, -⟩ := widx t
    match a with
    | ⟨0, _⟩ => show win0_0.index t 0 * 256 + 1 * (128 * h.val + l.val) = _; rw [h0]; show t.val % 4 * 256 + 1 * (128 * h.val + l.val) = t.val % 4 * 256 + (128 * h.val + l.val); omega
    | ⟨1, _⟩ => show win0_0.index t 1 * 2048 + 1 * s.val = _; rw [h1]; show t.val / 4 * 2048 + 1 * s.val = t.val / 4 * 2048 + s.val; omega
  rw [e]
  show (V m c main_v2 : FVec Ideal S1024x32768 .f32) (ix2 (lane t h l) (tok t s)) = _
  rw [V_v2]
  refine Eq.trans ?_ (pad_at (argQ m c) (sq t) s (hd t h) l)
  generalize Idealize.ShloMosaic.pad S16x2048x8x128 ![0, 0, 0, 0] ![0, 0, 0, 32] ![0, 0, 0, 0] (argQ m c) (sitofp (F := Ideal) .f32 (constantI S_ 32 0#32))
      pads_S16x2048x8x96_S16x2048x8x128_000_000_000_0320 h_S_ = A
  pointwise
  exact unflat t h l s A _ _ _ _ (by dsimp only [tok]) (by dsimp only [tok]; all_goals omega) (by dsimp only [lane]; all_goals omega) (by dsimp only [lane]; all_goals omega)

/-- The block of keys that point `t` reads. -/
theorem blkk (c : Dev nD) (t : Fin cfg0.N) (h : Fin 2) (l : Fin 128) (s : Fin 2048) :
    iblk m c 1 t (ix2 s ⟨128 * h.val + l.val, by omega⟩) = if hl : l.val < 96 then argK m c (ix4 (sq t) s (hd t h) ⟨l.val, hl⟩) else (0 : EReal) := by
  unfold iblk
  rw [View.read_apply]
  have e : ((cfg0.win 1).blk t).view.emb (ix2 s ⟨128 * h.val + l.val, by omega⟩) = ix2 (tok t s) (lane t h l) := by
    funext a
    apply Fin.ext
    obtain ⟨-, -, h0, h1, -⟩ := widx t
    match a with
    | ⟨0, _⟩ => show win0_1.index t 0 * 2048 + 1 * s.val = _; rw [h0]; show t.val / 4 * 2048 + 1 * s.val = t.val / 4 * 2048 + s.val; omega
    | ⟨1, _⟩ => show win0_1.index t 1 * 256 + 1 * (128 * h.val + l.val) = _; rw [h1]; show t.val % 4 * 256 + 1 * (128 * h.val + l.val) = t.val % 4 * 256 + (128 * h.val + l.val); omega
  rw [e]
  show (V m c main_v5 : FVec Ideal S32768x1024 .bf16) (ix2 (tok t s) (lane t h l)) = _
  rw [V_v5]
  refine Eq.trans ?_ (pad_at (argK m c) (sq t) s (hd t h) l)
  generalize Idealize.ShloMosaic.pad S16x2048x8x128 ![0, 0, 0, 0] ![0, 0, 0, 32] ![0, 0, 0, 0] (argK m c) (sitofp (F := Ideal) .f32 (constantI S_ 32 0#32))
      pads_S16x2048x8x96_S16x2048x8x128_000_000_000_0320 h_S_ = A
  pointwise
  exact unflat t h l s A _ _ _ _ (by dsimp only [tok]) (by dsimp only [tok]; all_goals omega) (by dsimp only [lane]; all_goals omega) (by dsimp only [lane]; all_goals omega)

/-- The block of values that point `t` reads. -/
theorem blkv (c : Dev nD) (t : Fin cfg0.N) (y : Fin 128) (s : Fin 2048) :
    iblk m c 2 t (ix2 y s) = argV m c (ix4 (sq t) s ⟨2 * (t.val % 4) + y.val / 64, by omega⟩ ⟨y.val % 64, by omega⟩) := by
  unfold iblk
  rw [View.read_apply]
  have e : ((cfg0.win 2).blk t).view.emb (ix2 y s) = ix2 (vlane t y) (tok t s) := by
    funext a
    apply Fin.ext
    obtain ⟨-, -, -, -, h0, h1, -⟩ := widx t
    match a with
    | ⟨0, _⟩ => show win0_2.index t 0 * 128 + 1 * y.val = _; rw [h0]; show t.val % 4 * 128 + 1 * y.val = t.val % 4 * 128 + y.val; omega
    | ⟨1, _⟩ => show win0_2.index t 1 * 2048 + 1 * s.val = _; rw [h1]; show t.val / 4 * 2048 + 1 * s.val = t.val / 4 * 2048 + s.val; omega
  rw [e]
  show (V m c main_v8 : FVec Ideal S512x32768 .bf16) (ix2 (vlane t y) (tok t s)) = _
  rw [V_v8]
  generalize argV m c = A
  pointwise
  exact unflatv t y s A _ _ _ _ (by dsimp only [tok]) (by dsimp only [tok]; omega) (by dsimp only [vlane]) (by dsimp only [vlane])

end Cert.Mla

end
-- ==== Proof.MlaCast.lean ====
/- The weights that the causal attention kernel narrows on the way: each of its four blocks of weights is left as read. -/
module

public import proofs.«01_k».proof.Proof.MlaBlk
public import proofs.«01_k».proof.Proof.Gen.Kernel3Ideal.Value
public import proofs.«01_k».proof.Proof.Gen.Reference3Ideal.Read

@[expose] public section

set_option maxRecDepth 16384

noncomputable section

namespace Cert.Mla

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The weights' windows move down the rows with the point, the last of them as far as its rows go. -/
theorem cidx : ∀ t : Fin grid0.N, (win0_3.index t 0 = t.val ∧ win0_3.index t 1 = 0 ∧ win0_8.index t 0 = t.val ∧ win0_8.index t 1 = 0)
    ∧ (win0_4.index t 0 = t.val ∧ win0_4.index t 1 = 0 ∧ win0_9.index t 0 = t.val ∧ win0_9.index t 1 = 0)
    ∧ (win0_5.index t 0 = t.val ∧ win0_5.index t 1 = 0 ∧ win0_10.index t 0 = t.val ∧ win0_10.index t 1 = 0)
    ∧ (win0_6.index t 0 = min t.val 43 ∧ win0_6.index t 1 = 0 ∧ win0_11.index t 0 = min t.val 43 ∧ win0_11.index t 1 = 0) :=
  by decide +kernel

/-- The last window is written back when the point leaves its block. -/
theorem flush11 : ∀ t : Fin grid0.N, (t.val < 43 ∨ t.val = 63) → win0_11.flush t = true := by decide +kernel

/-- The narrowed output projection. -/
def result8 (c : Dev nD) : Buf (Elt Ideal) ((c : Thread nD τ).loc main_v9_1) :=
  Cert.Reference3Ideal.Read.val_main_v29 (F := Ideal) (m ((c : Thread nD τ).loc main_arg3))

theorem flushed8_eq (c : Dev nD) (t : Fin cfg0.N) :
    (dats m 0 c).flushed 8 t = ((cfg0.win 8).blk t).view.read (Elt Ideal) (result8 m c) := by
  rw [Cert.Kernel3Ideal.Value.flushed8]
  unfold out0_8
  rw [View.canon_unit_zero hz]
  simp only [r0_0, View.ld_unit_zero (S := S16x1024) hz]
  funext j
  rw [View.read_apply]
  show iblk m c 3 t j = m ((c : Thread nD τ).loc main_arg3) _
  unfold iblk
  rw [View.read_apply]
  show V m c main_arg3 _ = _
  rw [V_main_arg3]
  congr 1

theorem final8 (c : Dev nD) : (dats m 0 c).arrAt 8 cfg0.N = result8 m c :=
  (dats m 0 c).arrAt_eq_of_cover 8 (result8 m c) (fun t _ => flushed8_eq m c t) fun i => by
    have h0 : (i 0 : Nat) < 1024 := (i 0).isLt
    have h1 : (i 1 : Nat) < 1024 := (i 1).isLt
    have hN : cfg0.N = 64 := N_0
    obtain ⟨t, ht⟩ : ∃ t : Fin cfg0.N, t.val = (i 0 : Nat) / 16 := ⟨⟨(i 0 : Nat) / 16, by omega⟩, rfl⟩
    refine ⟨t, flush0_8 _, ?_⟩
    show i ∈ ((View.whole main_v9_1).slice (win0_8.rect t)).set
    rw [View.set_slice_whole, Rect.mem_set_unit]
    intro a
    obtain ⟨⟨-, -, e0, e1⟩, -, -, -⟩ := cidx t
    match a with
    | ⟨0, _⟩ => show win0_8.index t 0 * 16 ≤ (i 0 : Nat) ∧ (i 0 : Nat) < win0_8.index t 0 * 16 + 16
                rw [e0]; omega
    | ⟨1, _⟩ => show win0_8.index t 1 * 1024 ≤ (i 1 : Nat) ∧ (i 1 : Nat) < win0_8.index t 1 * 1024 + 1024
                rw [e1]; omega

/-- The narrowed gate. -/
def result9 (c : Dev nD) : Buf (Elt Ideal) ((c : Thread nD τ).loc main_v9_2) :=
  Cert.Reference3Ideal.Read.val_main_v30 (F := Ideal) (m ((c : Thread nD τ).loc main_arg4))

theorem flushed9_eq (c : Dev nD) (t : Fin cfg0.N) :
    (dats m 0 c).flushed 9 t = ((cfg0.win 9).blk t).view.read (Elt Ideal) (result9 m c) := by
  rw [Cert.Kernel3Ideal.Value.flushed9]
  unfold out0_9
  rw [View.canon_unit_zero hz]
  simp only [r0_1, View.ld_unit_zero (S := S16x2816) hz]
  funext j
  rw [View.read_apply]
  show iblk m c 4 t j = m ((c : Thread nD τ).loc main_arg4) _
  unfold iblk
  rw [View.read_apply]
  show V m c main_arg4 _ = _
  rw [V_main_arg4]
  congr 1

theorem final9 (c : Dev nD) : (dats m 0 c).arrAt 9 cfg0.N = result9 m c :=
  (dats m 0 c).arrAt_eq_of_cover 9 (result9 m c) (fun t _ => flushed9_eq m c t) fun i => by
    have h0 : (i 0 : Nat) < 1024 := (i 0).isLt
    have h1 : (i 1 : Nat) < 2816 := (i 1).isLt
    have hN : cfg0.N = 64 := N_0
    obtain ⟨t, ht⟩ : ∃ t : Fin cfg0.N, t.val = (i 0 : Nat) / 16 := ⟨⟨(i 0 : Nat) / 16, by omega⟩, rfl⟩
    refine ⟨t, flush0_9 _, ?_⟩
    show i ∈ ((View.whole main_v9_2).slice (win0_9.rect t)).set
    rw [View.set_slice_whole, Rect.mem_set_unit]
    intro a
    obtain ⟨-, ⟨-, -, e0, e1⟩, -, -⟩ := cidx t
    match a with
    | ⟨0, _⟩ => show win0_9.index t 0 * 16 ≤ (i 0 : Nat) ∧ (i 0 : Nat) < win0_9.index t 0 * 16 + 16
                rw [e0]; omega
    | ⟨1, _⟩ => show win0_9.index t 1 * 2816 ≤ (i 1 : Nat) ∧ (i 1 : Nat) < win0_9.index t 1 * 2816 + 2816
                rw [e1]; omega

/-- The narrowed up projection. -/
def result10 (c : Dev nD) : Buf (Elt Ideal) ((c : Thread nD τ).loc main_v9_3) :=
  Cert.Reference3Ideal.Read.val_main_v31 (F := Ideal) (m ((c : Thread nD τ).loc main_arg5))

theorem flushed10_eq (c : Dev nD) (t : Fin cfg0.N) :
    (dats m 0 c).flushed 10 t = ((cfg0.win 10).blk t).view.read (Elt Ideal) (result10 m c) := by
  rw [Cert.Kernel3Ideal.Value.flushed10]
  unfold out0_10
  rw [View.canon_unit_zero hz]
  simp only [r0_1, View.ld_unit_zero (S := S16x2816) hz]
  funext j
  rw [View.read_apply]
  show iblk m c 5 t j = m ((c : Thread nD τ).loc main_arg5) _
  unfold iblk
  rw [View.read_apply]
  show V m c main_arg5 _ = _
  rw [V_main_arg5]
  congr 1

theorem final10 (c : Dev nD) : (dats m 0 c).arrAt 10 cfg0.N = result10 m c :=
  (dats m 0 c).arrAt_eq_of_cover 10 (result10 m c) (fun t _ => flushed10_eq m c t) fun i => by
    have h0 : (i 0 : Nat) < 1024 := (i 0).isLt
    have h1 : (i 1 : Nat) < 2816 := (i 1).isLt
    have hN : cfg0.N = 64 := N_0
    obtain ⟨t, ht⟩ : ∃ t : Fin cfg0.N, t.val = (i 0 : Nat) / 16 := ⟨⟨(i 0 : Nat) / 16, by omega⟩, rfl⟩
    refine ⟨t, flush0_10 _, ?_⟩
    show i ∈ ((View.whole main_v9_3).slice (win0_10.rect t)).set
    rw [View.set_slice_whole, Rect.mem_set_unit]
    intro a
    obtain ⟨-, -, ⟨-, -, e0, e1⟩, -⟩ := cidx t
    match a with
    | ⟨0, _⟩ => show win0_10.index t 0 * 16 ≤ (i 0 : Nat) ∧ (i 0 : Nat) < win0_10.index t 0 * 16 + 16
                rw [e0]; omega
    | ⟨1, _⟩ => show win0_10.index t 1 * 2816 ≤ (i 1 : Nat) ∧ (i 1 : Nat) < win0_10.index t 1 * 2816 + 2816
                rw [e1]; omega

/-- The narrowed down projection. -/
def result11 (c : Dev nD) : Buf (Elt Ideal) ((c : Thread nD τ).loc main_v9_4) :=
  Cert.Reference3Ideal.Read.val_main_v32 (F := Ideal) (m ((c : Thread nD τ).loc main_arg6))

theorem flushed11_eq (c : Dev nD) (t : Fin cfg0.N) :
    (dats m 0 c).flushed 11 t = ((cfg0.win 11).blk t).view.read (Elt Ideal) (result11 m c) := by
  rw [Cert.Kernel3Ideal.Value.flushed11]
  unfold out0_11
  rw [View.canon_unit_zero hz]
  simp only [r0_2, View.ld_unit_zero (S := S64x1024) hz]
  funext j
  rw [View.read_apply]
  show iblk m c 6 t j = m ((c : Thread nD τ).loc main_arg6) _
  unfold iblk
  rw [View.read_apply]
  show V m c main_arg6 _ = _
  rw [V_main_arg6]
  congr 1

theorem final11 (c : Dev nD) : (dats m 0 c).arrAt 11 cfg0.N = result11 m c :=
  (dats m 0 c).arrAt_eq_of_cover 11 (result11 m c) (fun t _ => flushed11_eq m c t) fun i => by
    have h0 : (i 0 : Nat) < 2816 := (i 0).isLt
    have h1 : (i 1 : Nat) < 1024 := (i 1).isLt
    have hN : cfg0.N = 64 := N_0
    obtain ⟨t, ht⟩ : ∃ t : Fin cfg0.N, t.val = if (i 0 : Nat) / 64 = 43 then 63 else (i 0 : Nat) / 64 := ⟨⟨if (i 0 : Nat) / 64 = 43 then 63 else (i 0 : Nat) / 64, by split <;> omega⟩, rfl⟩
    refine ⟨t, flush11 t (by rw [ht]; split <;> omega), ?_⟩
    show i ∈ ((View.whole main_v9_4).slice (win0_11.rect t)).set
    rw [View.set_slice_whole, Rect.mem_set_unit]
    intro a
    obtain ⟨-, -, -, ⟨-, -, e0, e1⟩⟩ := cidx t
    match a with
    | ⟨0, _⟩ => show win0_11.index t 0 * 64 ≤ (i 0 : Nat) ∧ (i 0 : Nat) < win0_11.index t 0 * 64 + 64
                rw [e0, ht]; split <;> omega
    | ⟨1, _⟩ => show win0_11.index t 1 * 1024 ≤ (i 1 : Nat) ∧ (i 1 : Nat) < win0_11.index t 1 * 1024 + 1024
                rw [e1]; omega

end Cert.Mla

end
-- ==== Proof.Mla.lean ====
/- The causal attention kernel's result arrays are the reference's, for finite queries and keys. -/
module

public import proofs.«01_k».proof.Proof.MlaPre
public import proofs.«01_k».proof.Proof.MlaRef
public import proofs.«01_k».proof.Proof.MlaCast
public import proofs.«01_k».proof.Proof.Gen.Reference3Ideal.Run
public import Idealize.ShloMosaic.Lib.Claim
public import Idealize.ShloMosaic.Lib.Quiescent

@[expose] public section

set_option maxRecDepth 16384

noncomputable section

namespace Cert.Mla

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ)

/-- The attention's result array: the reference's function of the arguments. -/
def result (c : Dev nD) : Vec Ideal S512x32768 .bf16 := Cert.Reference3Ideal.Read.val_main_v28 (F := Ideal) (argQ m c) (argK m c) (argV m c)

/-- An entry of real numbers read with the padding's zeros is the padded row of real numbers. -/
theorem pad_real (x : FVec Ideal S16x2048x8x96 .f32) (X : S16x2048x8x96.Idx → ℝ) (hX : ∀ i, (x i : EReal) = X i) (b : Fin 16) (s : Fin 2048)
    (h : Fin 8) (l : Fin 128) :
    (if hl : l.val < 96 then x (ix4 b s h ⟨l.val, hl⟩) else (0 : EReal)) = ((pad (fun d => X (ix4 b s h d)) l : ℝ) : EReal) := by
  unfold pad
  split
  · exact hX _
  · exact EReal.coe_zero.symm

/-- A block of the kernel's result is the block of the reference's, its inputs being the blocks of the reference's arguments. -/
theorem left_ref (x0 x1 : FVec Ideal S16x2048x8x96 .f32) (x2 : FVec Ideal S16x2048x8x64 .f32) (X Y : S16x2048x8x96.Idx → ℝ)
    (hX : ∀ i, (x0 i : EReal) = X i) (hY : ∀ i, (x1 i : EReal) = Y i) (t : Fin grid0.N) (q : Vec Ideal S256x2048 .f32)
    (k : Vec Ideal S2048x256 .bf16) (v : Vec Ideal S128x2048 .bf16)
    (hq : ∀ (h : Fin 2) (l : Fin 128) s, q (ix2 ⟨128 * h.val + l.val, by omega⟩ s) = if hl : l.val < 96 then x0 (ix4 (sq t) s (hd t h) ⟨l.val, hl⟩) else (0 : EReal))
    (hk : ∀ (h : Fin 2) (l : Fin 128) s, k (ix2 s ⟨128 * h.val + l.val, by omega⟩) = if hl : l.val < 96 then x1 (ix4 (sq t) s (hd t h) ⟨l.val, hl⟩) else (0 : EReal))
    (hv : ∀ (y : Fin 128) s, v (ix2 y s) = x2 (ix4 (sq t) s ⟨2 * (t.val % 4) + y.val / 64, by omega⟩ ⟨y.val % 64, by omega⟩))
    (y : Fin 128) (s : Fin 2048) :
    outAt q k v (ix2 y s) = Cert.Reference3Ideal.Read.val_main_v28 (F := Ideal) x0 x1 x2 (ix2 (vlane t y) (tok t s)) := by
  have hy : y.val / 64 < 2 := by omega
  refine (left_eq q k v y s (fun s d => X (ix4 (sq t) s (hd t ⟨y.val / 64, hy⟩) d)) (fun s d => Y (ix4 (sq t) s (hd t ⟨y.val / 64, hy⟩) d))
    (fun l s => (hq ⟨y.val / 64, hy⟩ l s).trans (pad_real x0 X hX _ _ _ _))
    (fun s l => (hk ⟨y.val / 64, hy⟩ l s).trans (pad_real x1 Y hY _ _ _ _))).trans ?_
  refine Eq.trans ?_ (Ref.v28_attn x0 x1 x2 (sq t) (hd t ⟨y.val / 64, hy⟩) (fun s d => X (ix4 (sq t) s (hd t ⟨y.val / 64, hy⟩) d))
    (fun s d => Y (ix4 (sq t) s (hd t ⟨y.val / 64, hy⟩) d)) (fun s d => hX _) (fun s d => hY _) s ⟨y.val % 64, by omega⟩ (vlane t y) (tok t s)
    (by show t.val % 4 * 128 + y.val = 64 * (2 * (t.val % 4) + y.val / 64) + y.val % 64; omega)
    (by show t.val / 4 * 2048 + s.val = 2048 * (t.val / 4) + s.val; omega)).symm
  refine congrArg (fun V => attn _ _ V s _) ?_
  funext t' d
  refine (hv _ t').trans (congrArg x2 ?_)
  have e1 : (64 * (y.val / 64) + d.val) / 64 = y.val / 64 := by omega
  have e2 : (64 * (y.val / 64) + d.val) % 64 = d.val := by omega
  simp only [e1, e2]

theorem flushed_eq (c : Dev nD) (t : Fin cfg0.N) (X Y : S16x2048x8x96.Idx → ℝ)
    (hX : ∀ i, (argQ m c i : EReal) = X i) (hY : ∀ i, (argK m c i : EReal) = Y i) :
    (dats m 0 c).flushed 7 t = ((cfg0.win 7).blk t).view.read (Elt Ideal) (result m c) := by
  rw [Cert.Kernel3Ideal.Value.flushed7]
  funext j
  obtain ⟨y, s, rfl⟩ : ∃ (y : Fin 128) (s : Fin 2048), j = ix2 y s := ⟨j 0, j 1, eq_ix2 j⟩
  rw [View.read_apply]
  have e : ((cfg0.win 7).blk t).view.emb (ix2 y s) = ix2 (vlane t y) (tok t s) := by
    funext a
    apply Fin.ext
    obtain ⟨-, -, -, -, -, -, h0, h1⟩ := widx t
    match a with
    | ⟨0, _⟩ => show win0_7.index t 0 * 128 + 1 * y.val = _; rw [h0]; show t.val % 4 * 128 + 1 * y.val = t.val % 4 * 128 + y.val; omega
    | ⟨1, _⟩ => show win0_7.index t 1 * 2048 + 1 * s.val = _; rw [h1]; show t.val / 4 * 2048 + 1 * s.val = t.val / 4 * 2048 + s.val; omega
  rw [e]
  have h := (out_eq (iblk m c 0 t) (iblk m c 1 t) (iblk m c 2 t) (iblk m c 3 t) (iblk m c 4 t) (iblk m c 5 t) (iblk m c 6 t) (ix2 y s)).trans
    (left_ref (argQ m c) (argK m c) (argV m c) X Y hX hY t (iblk m c 0 t) (iblk m c 1 t) (iblk m c 2 t) (blkq m c t) (blkk m c t) (blkv m c t) y s)
  generalize out0_7 (iblk m c 0 t) (iblk m c 1 t) (iblk m c 2 t) (iblk m c 3 t) (iblk m c 4 t) (iblk m c 5 t) (iblk m c 6 t) = L at h ⊢
  generalize hR : Cert.Reference3Ideal.Read.val_main_v28 (F := Ideal) (argQ m c) (argK m c) (argV m c) = R at h
  refine Eq.trans ?_ (cast_eq _ _).symm
  refine Eq.trans (b := L (ix2 y s)) rfl ?_
  have hR' : result m c = R := hR
  rw [hR']
  exact h

theorem final (c : Dev nD) (hf : (∀ i, ∃ r : ℝ, (argQ m c i : EReal) = r) ∧ ∀ i, ∃ r : ℝ, (argK m c i : EReal) = r) :
    (dats m 0 c).arrAt 7 cfg0.N = result m c := by
  obtain ⟨X, hX⟩ := Classical.axiom_of_choice hf.1
  obtain ⟨Y, hY⟩ := Classical.axiom_of_choice hf.2
  exact (dats m 0 c).arrAt_eq_of_cover 7 (result m c) (fun t _ => flushed_eq m c t X Y hX hY) fun i => by
    have h0 : (i 0 : Nat) < 512 := (i 0).isLt
    have h1 : (i 1 : Nat) < 32768 := (i 1).isLt
    have hN : cfg0.N = 64 := N_0
    obtain ⟨t, ht⟩ : ∃ t : Fin cfg0.N, t.val = 4 * ((i 1 : Nat) / 2048) + (i 0 : Nat) / 128 :=
      ⟨⟨4 * ((i 1 : Nat) / 2048) + (i 0 : Nat) / 128, by omega⟩, rfl⟩
    refine ⟨t, flush0_7 _, ?_⟩
    show i ∈ ((View.whole main_v9_0).slice (win0_7.rect t)).set
    rw [View.set_slice_whole, Rect.mem_set_unit]
    intro a
    obtain ⟨-, -, -, -, -, -, e0, e1⟩ := widx t
    match a with
    | ⟨0, _⟩ => show win0_7.index t 0 * 128 ≤ (i 0 : Nat) ∧ (i 0 : Nat) < win0_7.index t 0 * 128 + 128
                rw [e0]; omega
    | ⟨1, _⟩ => show win0_7.index t 1 * 2048 ≤ (i 1 : Nat) ∧ (i 1 : Nat) < win0_7.index t 1 * 2048 + 2048
                rw [e1]; omega

theorem algebraic [Cert.Kernel3Ideal.Facts] [Cert.Reference3Ideal.Facts] [Cert.Pre_finite_mla.Facts] :
    Cert.algebraic_Kernel3Ideal_Reference3Ideal_pre_finite_mla := by
  intro m g m' g' hpre hagree
  refine ⟨fun c => result m c, fun c => result8 m c, fun c => result9 m c, fun c => result10 m c, fun c => result11 m c, ?_, ?_⟩
  · refine (θ_run Cert.Kernel3Ideal.defs _ _).mono (fun r h c => ?_) (Cert.Kernel3Ideal.Value.run_blocks (F := Ideal) m g)
    obtain ⟨h7, h8, h9, h10, h11, ha⟩ := h c
    exact ⟨h7.trans (final m c (real_of_all _ _ _ _ _ _ _ (hpre c))), h8.trans (final8 m c), h9.trans (final9 m c), h10.trans (final10 m c),
      h11.trans (final11 m c), ha⟩
  · refine (θ_run Cert.Reference3Ideal.defs _ _).mono (fun r h c => ?_) (Cert.Reference3Ideal.Value.run (F := Ideal) m' g')
    obtain ⟨h28, h29, h30, h31, h32, ha⟩ := h c
    obtain ⟨a0, a1, a2, a3, a4, a5, a6⟩ := hagree c
    refine ⟨h28.trans ?_, h29.trans ?_, h30.trans ?_, h31.trans ?_, h32.trans ?_, ha⟩
    · refine (Cert.Reference3Ideal.Read.val_main_v28_eq (F := Ideal) m' c).trans ?_
      rw [a0, a1, a2]
      unfold result
      exact Eq.refl _
    · exact congrArg (Cert.Reference3Ideal.Read.val_main_v29 (F := Ideal)) a3
    · exact congrArg (Cert.Reference3Ideal.Read.val_main_v30 (F := Ideal)) a4
    · exact congrArg (Cert.Reference3Ideal.Read.val_main_v31 (F := Ideal)) a5
    · exact congrArg (Cert.Reference3Ideal.Read.val_main_v32 (F := Ideal)) a6

end Cert.Mla

end
-- ==== Proof.lean ====
module

public import proofs.«01_k».proof.Defs
public import proofs.«01_k».proof.Proof.Ffn
public import proofs.«01_k».proof.Proof.Moba
public import proofs.«01_k».proof.Proof.Mla
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4.Frame
public import proofs.«01_k».proof.Proof.Gen.Kernel4Ideal.Frame
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite_mla
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The attention reference runs, keeps its arguments and ends quiescent. -/
theorem frame_ref [Cert.ReferenceIdeal.Facts] : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The feed-forward reference runs, keeps its arguments and ends quiescent. -/
theorem frame_ref2 [Cert.Reference2Ideal.Facts] : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The causal attention reference runs, keeps its arguments and ends quiescent. -/
theorem frame_ref3 [Cert.Reference3Ideal.Facts] : Cert.quiescent_Reference3Ideal := fun m g _ =>
  (θ_run Cert.Reference3Ideal.defs _ _).mono (fun r h => ⟨fun c => (h c).2.2.2.2.2, sem_eq_zero_of_no_sems (by decide) r.2⟩)
    (Cert.Reference3Ideal.Value.run (F := Ideal) m g)

/-- The two constants that the block-sparse attention kernel names have the values that the ideal kernel reads. -/
theorem preserves : Cert.preserves_Kernel_KernelIdeal :=
  ⟨IdealRules.named_const.statement Cert.KernelIdeal.κ "scale" .f32 0x3E38AA3B#32 _ rfl,
    IdealRules.named_const.statement Cert.KernelIdeal.κ "mask" .f32 0xF149F2CA#32 ⊥ rfl⟩

/-- The two constants that the causal attention kernel names have the values that the ideal kernel reads. -/
theorem preserves3 : Cert.preserves_Kernel3_Kernel3Ideal :=
  ⟨IdealRules.named_const.statement Cert.Kernel3Ideal.κ "scale" .f32 0x3E16C740#32 _ rfl,
    IdealRules.named_const.statement Cert.Kernel3Ideal.κ "mask" .f32 0xF149F2CA#32 ⊥ rfl⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Moba.pre_facts, Cert.Pre_finite_mla.Gen.facts,
    fun m g _ => Cert.Kernel.Gen.frame m g, fun m g _ => Cert.KernelIdeal.Gen.frame m g,
    fun m g _ => Cert.KernelIdeal.Gen.frame m g, frame_ref, fun m g _ => frame_ref m g trivial,
    fun m g _ => Cert.Kernel2.Gen.frame m g, fun m g _ => Cert.Kernel2Ideal.Gen.frame m g, frame_ref2,
    fun m g _ => Cert.Kernel3.Gen.frame m g, fun m g _ => Cert.Kernel3Ideal.Gen.frame m g, fun m g _ => Cert.Kernel3Ideal.Gen.frame m g,
    frame_ref3, fun m g _ => frame_ref3 m g trivial,
    fun m g _ => Cert.Kernel4.Gen.frame m g, fun m g _ => Cert.Kernel4Ideal.Gen.frame m g,
    preserves, Cert.Moba.algebraic, trivial, Cert.Ffn.algebraic, preserves3, Cert.Mla.algebraic⟩

end Cert.Proof

end
